-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S2048x16384 : Shape := ⟨2, ![2048, 16384]⟩
abbrev S1x16384 : Shape := ⟨2, ![1, 16384]⟩
abbrev S16x128 : Shape := ⟨2, ![16, 128]⟩
abbrev S128x16384 : Shape := ⟨2, ![128, 16384]⟩
abbrev S2048x128 : Shape := ⟨2, ![2048, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S16x1x128 : Shape := ⟨3, ![16, 1, 128]⟩
abbrev S1x128x128 : Shape := ⟨3, ![1, 128, 128]⟩
abbrev S16x128x128 : Shape := ⟨3, ![16, 128, 128]⟩
abbrev S15x128 : Shape := ⟨2, ![15, 128]⟩
abbrev S15x1x128 : Shape := ⟨3, ![15, 1, 128]⟩
abbrev S15x128x128 : Shape := ⟨3, ![15, 128, 128]⟩
abbrev S1x1x128 : Shape := ⟨3, ![1, 1, 128]⟩
abbrev S14x128 : Shape := ⟨2, ![14, 128]⟩
abbrev S14x1x128 : Shape := ⟨3, ![14, 1, 128]⟩
abbrev S14x128x128 : Shape := ⟨3, ![14, 128, 128]⟩
abbrev S2x128 : Shape := ⟨2, ![2, 128]⟩
abbrev S2x1x128 : Shape := ⟨3, ![2, 1, 128]⟩
abbrev S2x128x128 : Shape := ⟨3, ![2, 128, 128]⟩
abbrev S13x128 : Shape := ⟨2, ![13, 128]⟩
abbrev S13x1x128 : Shape := ⟨3, ![13, 1, 128]⟩
abbrev S13x128x128 : Shape := ⟨3, ![13, 128, 128]⟩
abbrev S3x128 : Shape := ⟨2, ![3, 128]⟩
abbrev S3x1x128 : Shape := ⟨3, ![3, 1, 128]⟩
abbrev S3x128x128 : Shape := ⟨3, ![3, 128, 128]⟩
abbrev S12x128 : Shape := ⟨2, ![12, 128]⟩
abbrev S12x1x128 : Shape := ⟨3, ![12, 1, 128]⟩
abbrev S12x128x128 : Shape := ⟨3, ![12, 128, 128]⟩
abbrev S4x128 : Shape := ⟨2, ![4, 128]⟩
abbrev S4x1x128 : Shape := ⟨3, ![4, 1, 128]⟩
abbrev S4x128x128 : Shape := ⟨3, ![4, 128, 128]⟩
abbrev S11x128 : Shape := ⟨2, ![11, 128]⟩
abbrev S11x1x128 : Shape := ⟨3, ![11, 1, 128]⟩
abbrev S11x128x128 : Shape := ⟨3, ![11, 128, 128]⟩
abbrev S5x128 : Shape := ⟨2, ![5, 128]⟩
abbrev S5x1x128 : Shape := ⟨3, ![5, 1, 128]⟩
abbrev S5x128x128 : Shape := ⟨3, ![5, 128, 128]⟩
abbrev S10x128 : Shape := ⟨2, ![10, 128]⟩
abbrev S10x1x128 : Shape := ⟨3, ![10, 1, 128]⟩
abbrev S10x128x128 : Shape := ⟨3, ![10, 128, 128]⟩
abbrev S6x128 : Shape := ⟨2, ![6, 128]⟩
abbrev S6x1x128 : Shape := ⟨3, ![6, 1, 128]⟩
abbrev S6x128x128 : Shape := ⟨3, ![6, 128, 128]⟩
abbrev S9x128 : Shape := ⟨2, ![9, 128]⟩
abbrev S9x1x128 : Shape := ⟨3, ![9, 1, 128]⟩
abbrev S9x128x128 : Shape := ⟨3, ![9, 128, 128]⟩
abbrev S7x128 : Shape := ⟨2, ![7, 128]⟩
abbrev S7x1x128 : Shape := ⟨3, ![7, 1, 128]⟩
abbrev S7x128x128 : Shape := ⟨3, ![7, 128, 128]⟩
abbrev S8x128 : Shape := ⟨2, ![8, 128]⟩
abbrev S8x1x128 : Shape := ⟨3, ![8, 1, 128]⟩
abbrev S8x128x128 : Shape := ⟨3, ![8, 128, 128]⟩
abbrev S2048 : Shape := ⟨1, ![2048]⟩

abbrev nBuf : Space → Nat
  | .hbm => 5
  | .vmem => 6
  | .smem => 0
  | _ => 0

abbrev bufTy : (tb : Table) → Fin (tcTables nBuf tb) → BufTy
  | .hbm, ⟨0, _⟩ => ⟨S16384, .f32⟩
  | .hbm, ⟨1, _⟩ => ⟨S2048x16384, .f32⟩
  | .hbm, ⟨2, _⟩ => ⟨S1x16384, .f32⟩
  | .hbm, ⟨3, _⟩ => ⟨S16x128, .f32⟩
  | .hbm, ⟨4, _⟩ => ⟨S2048, .f32⟩
  | .local _ .vmem, ⟨0, _⟩ => ⟨S1x16384, .f32⟩
  | .local _ .vmem, ⟨1, _⟩ => ⟨S128x16384, .f32⟩
  | .local _ .vmem, ⟨2, _⟩ => ⟨S128x16384, .f32⟩
  | .local _ .vmem, ⟨3, _⟩ => ⟨S16x128, .f32⟩
  | .local _ .vmem, ⟨4, _⟩ => ⟨S16x128, .f32⟩
  | .local _ .vmem, ⟨5, _⟩ => ⟨S2048x128, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v7 : Index := Scalar.indexCast arg0
  let c0_3 : Index := 0#32
  ![v7.toNat, 0]
def k0_off2 (i : grid0.Coords) : Fin 2 → Nat :=
  let arg0 : BitVec 32 := BitVec.ofNat 32 (i 0).val
  let c128_i32 : BitVec 32 := 128#32
  let v14 : BitVec 32 := Scalar.muli arg0 c128_i32
  let v15 : Index := Scalar.indexCast v14
  let c0_4 : Index := 0#32
  ![v15.toNat, 0]
def k0_cond1 (i : grid0.Coords) : BitVec 1 :=
  let arg0 : BitVec 32 := BitVec.ofNat 32 (i 0).val
  let c15_i32 : BitVec 32 := 15#32
  let v19 : BitVec 1 := Scalar.cmpi .eq arg0 c15_i32
  let v20 : BitVec 32 := Scalar.extui v19
  let c0_i32 : BitVec 32 := 0#32
  let v21 : BitVec 1 := Scalar.cmpi .ne v20 c0_i32
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384 : Shape := ⟨1, ![16384]⟩
abbrev S2048x16384 : Shape := ⟨2, ![2048, 16384]⟩
abbrev S2048 : Shape := ⟨1, ![2048]⟩
abbrev S40 : Shape := ⟨1, ![40]⟩
abbrev S_ : Shape := ⟨0, ![]⟩
abbrev S40x1 : Shape := ⟨2, ![40, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384, .f32⟩
  | .hbm, ⟨1, _⟩ => ⟨S2048x16384, .f32⟩
  | .hbm, ⟨2, _⟩ => ⟨S2048, .f32⟩
  | .hbm, ⟨3, _⟩ => ⟨S40, .f32⟩
  | .hbm, ⟨4, _⟩ => ⟨S40, .i32⟩
  | .hbm, ⟨5, _⟩ => ⟨S_, .f32⟩
  | .hbm, ⟨6, _⟩ => ⟨S2048, .f32⟩
  | .hbm, ⟨7, _⟩ => ⟨S_, .i32⟩
  | .hbm, ⟨8, _⟩ => ⟨S40, .i32⟩
  | .hbm, ⟨9, _⟩ => ⟨S40, .i1⟩
  | .hbm, ⟨10, _⟩ => ⟨S_, .i32⟩
  | .hbm, ⟨11, _⟩ => ⟨S40, .i32⟩
  | .hbm, ⟨12, _⟩ => ⟨S40, .i32⟩
  | .hbm, ⟨13, _⟩ => ⟨S40, .i32⟩
  | .hbm, ⟨14, _⟩ => ⟨S40x1, .i32⟩
  | .hbm, ⟨15, _⟩ => ⟨S_, .f32⟩
  | .hbm, ⟨16, _⟩ => ⟨S40, .f32⟩
  | .hbm, ⟨17, _⟩ => ⟨S2048, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Proof.Rows.lean ====
/-
  What one grid point of the ranking kernel leaves in its buffers, as functions of what it finds there:
  the row and the block of overlaps it stores into the two scratch buffers, and, at the last point,
  the sixteen rows of marks it stores into the result block.
-/
module

public import proofs.«01_k».proof.Proof.Gen.KernelIdeal.Skeleton
public import Idealize.ShloMosaic.Lib.VecWindow
public import Idealize.ShloMosaic.Lib.ValueIdx
public import Idealize.ShloMosaic.Lib.Pipeline.FrameBody

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The row scratch after a grid point: the 128 overlaps of that point's rows put in the point's row. -/
def rowsAfter (i : grid0.Coords) (x0 : Vec F S1x16384 .f32) (x1 : Vec F S128x16384 .f32) (d : Vec F S16x128 .f32) : Vec F S16x128 .f32 :=
  VecWindow.put d (k0_off1 i) S1x128.size (k0_pay2 x1 x0)

/-- The column scratch after a grid point: the same overlaps, each in every lane, put in the point's block of 128 rows. -/
def colsAfter (i : grid0.Coords) (x0 : Vec F S1x16384 .f32) (x1 : Vec F S128x16384 .f32) (d : Vec F S2048x128 .f32) : Vec F S2048x128 .f32 :=
  VecWindow.put d (k0_off2 i) S128x128.size (k0_pay3 x1 x0)

/-- The 128 rows of the column scratch from row `o` on. -/
def colBlock (cols : Vec F S2048x128 .f32) (o : ℕ) (h : ∀ a, (![o, 0] : Fin 2 → ℕ) a + S128x128.size a ≤ S2048x128.size a) : Vec F S128x128 .f32 :=
  View.ld cols (Rect.unit (s := S2048x128) ![o, 0] S128x128.size h)

/-- The sixteen rows of marks, from all the overlaps `pl` and the column scratch: row `b` ranks the overlaps of block `b`. -/
def markRows (pl : Vec F S16x128 .f32) (cols : Vec F S2048x128 .f32) : Fin 16 → FVec F S1x128 .f32 :=
  ![
      k0_pay6 pl (colBlock cols 0 inb_S2048x128_S128x128_0_0),
      k0_pay9 pl k0_pay5 (colBlock cols 128 inb_S2048x128_S128x128_128_0) (k0_pay7 pl (colBlock cols 128 inb_S2048x128_S128x128_128_0)) (k0_pay8 pl),
      k0_pay14 pl k0_pay5 (colBlock cols 256 inb_S2048x128_S128x128_256_0) (k0_pay10 pl (colBlock cols 256 inb_S2048x128_S128x128_256_0)) (k0_pay11 pl (colBlock cols 256 inb_S2048x128_S128x128_256_0)) k0_pay12 k0_pay13,
      k0_pay17 (k0_pay15 pl (colBlock cols 384 inb_S2048x128_S128x128_384_0)) (k0_pay16 pl k0_pay5 (colBlock cols 384 inb_S2048x128_S128x128_384_0)),
      k0_pay19 (k0_pay18 pl k0_pay5 (colBlock cols 512 inb_S2048x128_S128x128_512_0)),
      k0_pay20 pl k0_pay5 (colBlock cols 640 inb_S2048x128_S128x128_640_0),
      k0_pay21 pl k0_pay5 (colBlock cols 768 inb_S2048x128_S128x128_768_0),
      k0_pay24 pl k0_pay5 (colBlock cols 896 inb_S2048x128_S128x128_896_0) (k0_pay22 pl) (k0_pay23 (colBlock cols 896 inb_S2048x128_S128x128_896_0)),
      k0_pay26 pl k0_pay5 (colBlock cols 1024 inb_S2048x128_S128x128_1024_0) (k0_pay25 pl (colBlock cols 1024 inb_S2048x128_S128x128_1024_0)),
      k0_pay29 pl k0_pay5 (colBlock cols 1152 inb_S2048x128_S128x128_1152_0) (k0_pay27 pl (colBlock cols 1152 inb_S2048x128_S128x128_1152_0)) (k0_pay28 pl (colBlock cols 1152 inb_S2048x128_S128x128_1152_0)),
      k0_pay31 pl k0_pay5 (colBlock cols 1280 inb_S2048x128_S128x128_1280_0) (k0_pay30 pl (colBlock cols 1280 inb_S2048x128_S128x128_1280_0)),
      k0_pay36 (k0_pay32 pl (colBlock cols 1408 inb_S2048x128_S128x128_1408_0)) (k0_pay33 pl k0_pay5 (colBlock cols 1408 inb_S2048x128_S128x128_1408_0)) k0_pay34 k0_pay35,
      k0_pay38 (k0_pay37 pl k0_pay5 (colBlock cols 1536 inb_S2048x128_S128x128_1536_0)),
      k0_pay39 pl k0_pay5 (colBlock cols 1664 inb_S2048x128_S128x128_1664_0),
      k0_pay40 pl k0_pay5 (colBlock cols 1792 inb_S2048x128_S128x128_1792_0),
      k0_pay4 pl k0_pay5 (colBlock cols 1920 inb_S2048x128_S128x128_1920_0) (k0_pay41 pl (colBlock cols 1920 inb_S2048x128_S128x128_1920_0)) (Scalar.ofBits .f32 0x3F800000#32) (Scalar.ofBits .f32 0x00000000#32) ]

/-- The result block the last grid point leaves, row by row. -/
def marks (pl : Vec F S16x128 .f32) (cols : Vec F S2048x128 .f32) : Vec F S16x128 .f32 :=
  fun y => markRows pl cols (y 0) (ValueIdx.ix2 (0 : Fin 1) (y 1))

end Cert.KernelIdeal.Rank

end
-- ==== Proof.Steps.lean ====
/-
  The scratch buffers point by point: after the first `t` grid points the first `t` rows of the row scratch and
  the first `128 t` rows of the column scratch hold the overlaps of the blocks met so far.
-/
module

public import proofs.«01_k».proof.Proof.Rows
public import proofs.«01_k».proof.Proof.Gen.KernelIdeal.Frame
public import Idealize.ShloMosaic.Lib.ValueLayout
public import Idealize.ShloMosaic.Lib.Claim

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix1 ix2 ix3 eq_ix1 eq_ix2 eq_ix3)

/-- A point's number is its coordinate. -/
theorem coord_eq (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  rw [e0]; omega

/-- Point `t` stores its row of overlaps at row `t`. -/
theorem off1_eq (t : Fin cfg0.N) : k0_off1 (grid0.coords t) = ![t.val, 0] := by
  have ht : t.val < 16 := Nat.lt_of_lt_of_eq t.isLt N_0
  unfold k0_off1
  rw [coord_eq]
  have : (Scalar.indexCast (BitVec.ofNat 32 t.val)).toNat = t.val := by
    show (BitVec.ofNat 32 t.val).toNat = t.val
    rw [BitVec.toNat_ofNat]; omega
  simp only [this]

/-- Point `t` stores its block of overlaps from row `128 t` on. -/
theorem off2_eq (t : Fin cfg0.N) : k0_off2 (grid0.coords t) = ![128 * t.val, 0] := by
  have ht : t.val < 16 := Nat.lt_of_lt_of_eq t.isLt N_0
  unfold k0_off2
  rw [coord_eq]
  have : (Scalar.indexCast (Scalar.muli (BitVec.ofNat 32 t.val) 128#32)).toNat = 128 * t.val := by
    show (BitVec.ofNat 32 t.val * 128#32).toNat = 128 * t.val
    rw [BitVec.toNat_mul, BitVec.toNat_ofNat, BitVec.toNat_ofNat]; omega
  simp only [this]

/-- The stored row is the block's overlaps in order. -/
theorem pay2_apply (x1 : Vec F S128x16384 .f32) (x0 : Vec F S1x16384 .f32) (u : Fin 1) (l : Fin 128) :
    k0_pay2 x1 x0 (ix2 u l) = k0_pay1 x1 x0 (ix1 l) := by
  unfold k0_pay2
  simp only [shapeCast_self]
  exact ValueIdx.shapeCast_a_1a_apply _ _ u l

/-- The stored block holds, in row `r`, the overlap of the block's row `r` in every lane. -/
theorem pay3_apply (x1 : Vec F S128x16384 .f32) (x0 : Vec F S1x16384 .f32) (r j : Fin 128) :
    k0_pay3 x1 x0 (ix2 r j) = k0_pay1 x1 x0 (ix1 r) := by
  unfold k0_pay3
  simp only [shapeCast_self]
  refine (broadcastTo_apply _ _ (ix2 r j) (ix2 r (0 : Fin 1)) ?_).trans ?_
  · intro a
    match a with
    | ⟨0, _⟩ => rfl
    | ⟨1, _⟩ => rfl
  · refine shapeCast_apply _ _ _ _ ?_
    rw [Shape.rowMajor_val_two, Shape.rowMajor_val_one]
    show r.val = r.val * 1 + 0
    omega

section Blocks

variable (X0 : Fin 16 → Vec F S1x16384 .f32) (X1 : Fin 16 → Vec F S128x16384 .f32)

/-- The overlap of row `l` of block `b`. -/
def ov (b : Fin 16) (l : Fin 128) : F .f32 := k0_pay1 (X1 b) (X0 b) (ix1 l)

/-- All the overlaps, one row a block. -/
def planesOf : Vec F S16x128 .f32 := fun y => ov X0 X1 (y 0) (y 1)

/-- All the overlaps, one a row, in every lane. -/
def colsOf : Vec F S2048x128 .f32 := fun y =>
  ov X0 X1 ⟨(y 0).val / 128, by have := (y 0).isLt; change _ < 2048 at this; omega⟩ ⟨(y 0).val % 128, Nat.mod_lt _ (by decide)⟩

/-- The first `t` blocks' overlaps are in the two scratch buffers. -/
def Filled (t : ℕ) (d4 : Vec F S16x128 .f32) (d5 : Vec F S2048x128 .f32) : Prop :=
  (∀ y, (y 0).val < t → d4 y = planesOf X0 X1 y) ∧ (∀ y, (y 0).val < 128 * t → d5 y = colsOf X0 X1 y)

/-- Nothing is asked before the first point. -/
theorem filled_zero (d4 : Vec F S16x128 .f32) (d5 : Vec F S2048x128 .f32) : Filled X0 X1 0 d4 d5 :=
  ⟨fun y h => absurd h (Nat.not_lt_zero _), fun y h => absurd h (Nat.not_lt_zero _)⟩

/-- Once every point has run, both buffers are full. -/
theorem Filled.full {d4 : Vec F S16x128 .f32} {d5 : Vec F S2048x128 .f32} (h : Filled X0 X1 16 d4 d5) :
    d4 = planesOf X0 X1 ∧ d5 = colsOf X0 X1 :=
  ⟨funext fun y => h.1 y (y 0).isLt, funext fun y => h.2 y (y 0).isLt⟩

/-- A grid point adds its own block's overlaps. -/
theorem Filled.step {t : Fin cfg0.N} {b : Fin 16} (hb : b.val = t.val) {d4 : Vec F S16x128 .f32} {d5 : Vec F S2048x128 .f32} (h : Filled X0 X1 t.val d4 d5) :
    Filled X0 X1 (t.val + 1) (rowsAfter (grid0.coords t) (X0 b) (X1 b) d4) (colsAfter (grid0.coords t) (X0 b) (X1 b) d5) := by
  refine ⟨fun y hy => ?_, fun y hy => ?_⟩
  · unfold rowsAfter VecWindow.put
    rw [off1_eq]
    split
    · next hin =>
      have h0 := hin 0
      have hy0 : (y 0).val = t.val := by
        change t.val ≤ (y 0).val ∧ (y 0).val < t.val + 1 at h0; omega
      obtain ⟨z, hz⟩ : ∃ z : S1x128.Idx, z = Rect.unitLocal y hin := ⟨_, rfl⟩
      rw [← hz, eq_ix2 z]
      refine (pay2_apply _ _ _ _).trans ?_
      have e0 : y 0 = b := Fin.ext (hy0.trans hb.symm)
      have e1 : z 1 = y 1 := by rw [hz]; exact Fin.ext (Nat.sub_zero _)
      unfold planesOf ov
      rw [e0, e1]
    · next hin =>
      refine h.1 y ?_
      by_contra hc
      refine hin fun a => ?_
      match a with
      | ⟨0, _⟩ => exact ⟨by show t.val ≤ (y 0).val; omega, by show (y 0).val < t.val + 1; omega⟩
      | ⟨1, _⟩ => exact ⟨Nat.zero_le _, by show (y 1).val < 0 + 128; have := (y 1).isLt; change _ < 128 at this; omega⟩
  · unfold colsAfter VecWindow.put
    rw [off2_eq]
    split
    · next hin =>
      have h0 := hin 0
      change 128 * t.val ≤ (y 0).val ∧ (y 0).val < 128 * t.val + 128 at h0
      obtain ⟨z, hz⟩ : ∃ z : S128x128.Idx, z = Rect.unitLocal y hin := ⟨_, rfl⟩
      rw [← hz, eq_ix2 z]
      refine (pay3_apply _ _ _ _).trans ?_
      have e1 : z 0 = (⟨(y 0).val % 128, Nat.mod_lt _ (by decide)⟩ : Fin 128) := by
        rw [hz]
        exact Fin.ext (by show (y 0).val - 128 * t.val = (y 0).val % 128; omega)
      unfold colsOf ov
      have e0 : (⟨(y 0).val / 128, by have := (y 0).isLt; change _ < 2048 at this; omega⟩ : Fin 16) = b :=
        Fin.ext (by show (y 0).val / 128 = b.val; omega)
      rw [e0, e1]
    · next hin =>
      refine h.2 y ?_
      by_contra hc
      refine hin fun a => ?_
      match a with
      | ⟨0, _⟩ => exact ⟨by show 128 * t.val ≤ (y 0).val; omega, by show (y 0).val < 128 * t.val + 128; omega⟩
      | ⟨1, _⟩ => exact ⟨Nat.zero_le _, by show (y 1).val < 0 + 128; have := (y 1).isLt; change _ < 128 at this; omega⟩

end Blocks

end Cert.KernelIdeal.Rank

end
-- ==== Proof.Body.lean ====
/-
  The kernel body run symbolically: at a grid point before the last it stores into the two scratch
  buffers only; at the last point it also stores the sixteen rows of marks.
-/
module

public import proofs.«01_k».proof.Proof.Gen.KernelIdeal.Frame
public import proofs.«01_k».proof.Proof.Rows
public import Idealize.ShloMosaic.Lib.Pipeline.ValueKit.Tiles

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- A store through one of the sixteen one-row rectangles, where it holds the index `y`, has there the value of row `y 0` of a
    family `R` of rows, if the stored payload is the family's row. -/
theorem tileAt_row (R : Fin 16 → FVec F S1x128 .f32) (b : Fin 16) (y : S16x128.Idx) :
    View.TileAt (Val := Elt F) (e := .f32) y ![b.val, 0] S1x128.size (R b) (R (y 0) (ValueIdx.ix2 (0 : Fin 1) (y 1))) := by
  intro x hx
  have h0 : (y 0).val = b.val + (x 0).val := hx 0
  have h1 : (y 1).val = 0 + (x 1).val := hx 1
  have hx0 : (x 0).val < 1 := (x 0).isLt
  have hb : y 0 = b := Fin.ext (by omega)
  rw [hb]
  congr 1
  funext a
  match a with
  | ⟨0, _⟩ => exact Fin.ext (by show (x 0).val = 0; omega)
  | ⟨1, _⟩ => exact Fin.ext (by show (x 1).val = (y 1).val; omega)

/-- The row scratch read after the point's one store into it. -/
theorem read_rowsAfter (i : grid0.Coords) (arg1 : Memref sig .tc .vmem S1x16384 .f32) (harg1 : arg1.IsWhole) (arg2 : Memref sig .tc .vmem S128x16384 .f32) (harg2 : arg2.IsWhole) (arg4 : Memref sig .tc .vmem S16x128 .f32) (harg4 : arg4.IsWhole)
    (x0 : Vec F S1x16384 .f32) (x1 : Vec F S128x16384 .f32) (d : Vec F S16x128 .f32) :
    arg4.view.read (Elt F) (arg4.view.writes (Elt F) (harg4.unread d)
      [⟨Rect.unit (s := S16x128) (k0_off1 i) S1x128.size (k0_off1_inb i),
        k0_pay2 (arg2.view.readAt (Elt F) (Rect.unit (s := S128x16384) ![0, 0] S128x16384.size inb_S128x16384_S128x16384_0_0).toLoadRect (harg2.unread x1))
          (arg1.view.readAt (Elt F) (Rect.unit (s := S1x16384) ![0, 0] S1x16384.size inb_S1x16384_S1x16384_0_0).toLoadRect (harg1.unread x0))⟩])
      = rowsAfter i x0 x1 d := by
  rw [View.read_writes_cons_put _ _ _ _ _ rfl, View.writes_nil, harg4.read_unread, View.readAt_full, View.readAt_full, harg1.read_unread,
    harg2.read_unread]
  rfl

/-- The column scratch read after the point's one store into it. -/
theorem read_colsAfter (i : grid0.Coords) (arg1 : Memref sig .tc .vmem S1x16384 .f32) (harg1 : arg1.IsWhole) (arg2 : Memref sig .tc .vmem S128x16384 .f32) (harg2 : arg2.IsWhole) (arg5 : Memref sig .tc .vmem S2048x128 .f32) (harg5 : arg5.IsWhole)
    (x0 : Vec F S1x16384 .f32) (x1 : Vec F S128x16384 .f32) (d : Vec F S2048x128 .f32) :
    arg5.view.read (Elt F) (arg5.view.writes (Elt F) (harg5.unread d)
      [⟨Rect.unit (s := S2048x128) (k0_off2 i) S128x128.size (k0_off2_inb i),
        k0_pay3 (arg2.view.readAt (Elt F) (Rect.unit (s := S128x16384) ![0, 0] S128x16384.size inb_S128x16384_S128x16384_0_0).toLoadRect (harg2.unread x1))
          (arg1.view.readAt (Elt F) (Rect.unit (s := S1x16384) ![0, 0] S1x16384.size inb_S1x16384_S1x16384_0_0).toLoadRect (harg1.unread x0))⟩])
      = colsAfter i x0 x1 d := by
  rw [View.read_writes_cons_put _ _ _ _ _ rfl, View.writes_nil, harg5.read_unread, View.readAt_full, View.readAt_full, harg1.read_unread,
    harg2.read_unread]
  rfl

/-- Sixteen one-row stores, row 15 last, leave the block with those rows. -/
theorem read_sixteen_rows (v : View sig .tc .vmem S16x128 .f32) (f : v.ty.Contents (Elt F)) (p0 p1 p2 p3 p4 p5 p6 p7 p8 p9 p10 p11 p12 p13 p14 p15 : FVec F S1x128 .f32) :
    v.read (Elt F) (v.writes (Elt F) f
      [ ⟨Rect.unit (s := S16x128) ![15, 0] S1x128.size inb_S16x128_S1x128_15_0, p15⟩,
        ⟨Rect.unit (s := S16x128) ![14, 0] S1x128.size inb_S16x128_S1x128_14_0, p14⟩,
        ⟨Rect.unit (s := S16x128) ![13, 0] S1x128.size inb_S16x128_S1x128_13_0, p13⟩,
        ⟨Rect.unit (s := S16x128) ![12, 0] S1x128.size inb_S16x128_S1x128_12_0, p12⟩,
        ⟨Rect.unit (s := S16x128) ![11, 0] S1x128.size inb_S16x128_S1x128_11_0, p11⟩,
        ⟨Rect.unit (s := S16x128) ![10, 0] S1x128.size inb_S16x128_S1x128_10_0, p10⟩,
        ⟨Rect.unit (s := S16x128) ![9, 0] S1x128.size inb_S16x128_S1x128_9_0, p9⟩,
        ⟨Rect.unit (s := S16x128) ![8, 0] S1x128.size inb_S16x128_S1x128_8_0, p8⟩,
        ⟨Rect.unit (s := S16x128) ![7, 0] S1x128.size inb_S16x128_S1x128_7_0, p7⟩,
        ⟨Rect.unit (s := S16x128) ![6, 0] S1x128.size inb_S16x128_S1x128_6_0, p6⟩,
        ⟨Rect.unit (s := S16x128) ![5, 0] S1x128.size inb_S16x128_S1x128_5_0, p5⟩,
        ⟨Rect.unit (s := S16x128) ![4, 0] S1x128.size inb_S16x128_S1x128_4_0, p4⟩,
        ⟨Rect.unit (s := S16x128) ![3, 0] S1x128.size inb_S16x128_S1x128_3_0, p3⟩,
        ⟨Rect.unit (s := S16x128) ![2, 0] S1x128.size inb_S16x128_S1x128_2_0, p2⟩,
        ⟨Rect.unit (s := S16x128) ![1, 0] S1x128.size inb_S16x128_S1x128_1_0, p1⟩,
        ⟨Rect.unit (s := S16x128) ![0, 0] S1x128.size inb_S16x128_S1x128_0_0, p0⟩ ])
      = fun y => (![p0, p1, p2, p3, p4, p5, p6, p7, p8, p9, p10, p11, p12, p13, p14, p15] : Fin 16 → FVec F S1x128 .f32) (y 0) (ValueIdx.ix2 (0 : Fin 1) (y 1)) := by
  funext y
  refine (View.read_writes_apply_eq_canon v f y _ (View.cover_of_tiled_head _ _ _ rfl y)).trans ?_
  refine View.canon_eq_of_allAt _ _ _ (View.cover_of_tiled_head _ _ _ rfl y) ?_
  have row (b : Fin 16) := tileAt_row ![p0, p1, p2, p3, p4, p5, p6, p7, p8, p9, p10, p11, p12, p13, p14, p15] b y
  exact View.allAt_cons_unit _ _ _ _ _ (row 15) <|
    View.allAt_cons_unit _ _ _ _ _ (row 14) <|
    View.allAt_cons_unit _ _ _ _ _ (row 13) <|
    View.allAt_cons_unit _ _ _ _ _ (row 12) <|
    View.allAt_cons_unit _ _ _ _ _ (row 11) <|
    View.allAt_cons_unit _ _ _ _ _ (row 10) <|
    View.allAt_cons_unit _ _ _ _ _ (row 9) <|
    View.allAt_cons_unit _ _ _ _ _ (row 8) <|
    View.allAt_cons_unit _ _ _ _ _ (row 7) <|
    View.allAt_cons_unit _ _ _ _ _ (row 6) <|
    View.allAt_cons_unit _ _ _ _ _ (row 5) <|
    View.allAt_cons_unit _ _ _ _ _ (row 4) <|
    View.allAt_cons_unit _ _ _ _ _ (row 3) <|
    View.allAt_cons_unit _ _ _ _ _ (row 2) <|
    View.allAt_cons_unit _ _ _ _ _ (row 1) <|
    View.allAt_cons_unit _ _ _ _ _ (row 0) <|
    View.allAt_nil _ _

set_option maxHeartbeats 1000000 in
/-- The body at a point that is not the last: the inputs and the result block as found, the scratch buffers each with the
    point's overlaps put in. -/
theorem body_early (c : Dev nD) (i : grid0.Coords) (arg1 : Memref sig .tc .vmem S1x16384 .f32) (harg1 : arg1.IsWhole) (arg2 : Memref sig .tc .vmem S128x16384 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S2048x128 .f32) (harg5 : arg5.IsWhole) (hc0 : ¬ k0_cond1 i = 1#1)
    (x0 : Vec F S1x16384 .f32) (x1 : Vec F S128x16384 .f32) (d3 : Vec F S16x128 .f32) (d4 : Vec F S16x128 .f32) (d5 : Vec F S2048x128 .f32) :
      ∀ (E : Set ℕ) (K : PUnit → sProp 𝕄),
        iprop(owns (c : Thread nD τ) arg1 fullShare x0 ∗ owns (c : Thread nD τ) arg2 fullShare x1 ∗ owns (c : Thread nD τ) arg3 fullShare d3 ∗ owns (c : Thread nD τ) arg4 fullShare d4 ∗ owns (c : Thread nD τ) arg5 fullShare d5
            ∗ (iprop(owns (c : Thread nD τ) arg1 fullShare x0 ∗ owns (c : Thread nD τ) arg2 fullShare x1 ∗ owns (c : Thread nD τ) arg3 fullShare d3 ∗ owns (c : Thread nD τ) arg4 fullShare (rowsAfter i x0 x1 d4) ∗ owns (c : Thread nD τ) arg5 fullShare (colsAfter i x0 x1 d5)) -∗ K ⟨⟩))
          ⊢ wp frame (wpE (defs₀ (F := F)) Variants.none c none) E (cc0__fused_body i arg1 harg1 arg2 harg2 arg3 harg3 arg4 harg4 arg5 harg5) K := by
    intro E K
    simp only [cc0__fused_body_eq_skeleton]; unfold cc0__fused_body_skel
    unfold owns
    iintro ⟨⟨%f0, %hf0, H0⟩, ⟨%f1, %hf1, H1⟩, ⟨%f2, %hf2, H2⟩, ⟨%fs0, %hs0, HS0⟩, ⟨%fs1, %hs1, HS1⟩, Hk⟩
    obtain rfl := harg1.eq_unread hf0; obtain rfl := harg2.eq_unread hf1
    obtain rfl := harg4.eq_unread hs0; obtain rfl := harg5.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact hf2
      iexact H2
    isplitl [HS0]
    · iexists _; isplitr; swap; · iexact HS0
      ipureintro
      exact read_rowsAfter i arg1 harg1 arg2 harg2 arg4 harg4 x0 x1 d4
    iexists _; isplitr; swap; · iexact HS1
    ipureintro
    exact read_colsAfter i arg1 harg1 arg2 harg2 arg5 harg5 x0 x1 d5

set_option maxHeartbeats 1000000 in
/-- The body at the last point: the inputs as found, the scratch buffers each with the point's overlaps put in, and the result
    block, whatever it held, at the marks of those scratch contents. -/
theorem body_last (c : Dev nD) (i : grid0.Coords) (arg1 : Memref sig .tc .vmem S1x16384 .f32) (harg1 : arg1.IsWhole) (arg2 : Memref sig .tc .vmem S128x16384 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S2048x128 .f32) (harg5 : arg5.IsWhole) (hc0 : k0_cond1 i = 1#1)
    (x0 : Vec F S1x16384 .f32) (x1 : Vec F S128x16384 .f32) (d4 : Vec F S16x128 .f32) (d5 : Vec F S2048x128 .f32) :
      ∀ (E : Set ℕ) (K : PUnit → sProp 𝕄),
        iprop(owns (c : Thread nD τ) arg1 fullShare x0 ∗ owns (c : Thread nD τ) arg2 fullShare x1 ∗ (∃ d3, owns (c : Thread nD τ) arg3 fullShare d3) ∗ owns (c : Thread nD τ) arg4 fullShare d4 ∗ owns (c : Thread nD τ) arg5 fullShare d5
            ∗ (iprop(owns (c : Thread nD τ) arg1 fullShare x0 ∗ owns (c : Thread nD τ) arg2 fullShare x1 ∗ owns (c : Thread nD τ) arg3 fullShare (marks (rowsAfter i x0 x1 d4) (colsAfter i x0 x1 d5)) ∗ owns (c : Thread nD τ) arg4 fullShare (rowsAfter i x0 x1 d4) ∗ owns (c : Thread nD τ) arg5 fullShare (colsAfter i x0 x1 d5)) -∗ K ⟨⟩))
          ⊢ wp frame (wpE (defs₀ (F := F)) Variants.none c none) E (cc0__fused_body i arg1 harg1 arg2 harg2 arg3 harg3 arg4 harg4 arg5 harg5) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%d3, %f2, -, H2⟩, ⟨%fs0, %hs0, HS0⟩, ⟨%fs1, %hs1, HS1⟩, Hk⟩
    obtain rfl := harg1.eq_unread hf0; obtain rfl := harg2.eq_unread hf1
    obtain rfl := harg4.eq_unread hs0; obtain rfl := harg5.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      have h4 := read_rowsAfter i arg1 harg1 arg2 harg2 arg4 harg4 x0 x1 d4
      have h5 := read_colsAfter i arg1 harg1 arg2 harg2 arg5 harg5 x0 x1 d5
      have h4' := (View.readAt_full arg4.view _ inb_S16x128_S16x128_0_0).trans h4
      rw [← h4', ← h5]
      exact read_sixteen_rows arg3.view f2 _ _ _ _ _ _ _ _ _ _ _ _ _ _ _ _
    isplitl [HS0]
    · iexists _; isplitr; swap; · iexact HS0
      ipureintro
      exact read_rowsAfter i arg1 harg1 arg2 harg2 arg4 harg4 x0 x1 d4
    iexists _; isplitr; swap; · iexact HS1
    ipureintro
    exact read_colsAfter i arg1 harg1 arg2 harg2 arg5 harg5 x0 x1 d5

end Cert.KernelIdeal.Rank

end
-- ==== Proof.Region.lean ====
/-
  The pipeline's run: what each grid point is given and leaves, the body obligation at every point, and the
  contents every buffer ends with.
-/
module

public import proofs.«01_k».proof.Proof.Steps
public import proofs.«01_k».proof.Proof.Body

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of block `b`. -/
def pt (b : Fin 16) : Fin cfg0.N := ⟨b.val, by rw [show cfg0.N = 16 from N_0]; exact b.isLt⟩

/-- The input row as point `b` reads it. -/
def blk0 (c : Dev nD) (b : Fin 16) : Vec F S1x16384 .f32 := iblk m c 0 (pt b)

/-- The 128 rows of connections point `b` reads. -/
def blk1 (c : Dev nD) (b : Fin 16) : Vec F S128x16384 .f32 := iblk m c 1 (pt b)

/-- The marks the kernel ends with. -/
def outBlock (c : Dev nD) : Vec F S16x128 .f32 :=
  marks (planesOf (blk0 m c) (blk1 m c)) (colsOf (blk0 m c) (blk1 m c))

/-- The body's condition holds at the last point only. -/
theorem last_iff (t : Fin cfg0.N) : k0_cond1 (grid0.coords t) = 1#1 ↔ t.val % 16 = 15 := by
  have ht : t.val < 16 := Nat.lt_of_lt_of_eq t.isLt N_0
  simp only [k0_cond1, coord_eq]
  generalize t.val = k at ht
  interval_cases k <;> decide

abbrev st0 (t : Fin cfg0.N) : Memref sig .tc .vmem S1x16384 .f32 := win0_0.stage (cfg0.slots t 0)
abbrev st1 (t : Fin cfg0.N) : Memref sig .tc .vmem S128x16384 .f32 := win0_1.stage (cfg0.slots t 1)
abbrev st2 (t : Fin cfg0.N) : Memref sig .tc .vmem S16x128 .f32 := win0_2.stage (cfg0.slots t 2)
abbrev scr0 : Memref sig .tc .vmem S16x128 .f32 := Memref.whole cc0_scratch0
abbrev scr1 : Memref sig .tc .vmem S2048x128 .f32 := Memref.whole cc0_scratch1

/-- The core's own buffers between points, as the launch holds them: the two scratch buffers and the generator register. -/
theorem kept_eq (c : Dev nD) : (Pipeline.ΦA spec0 c : sProp 𝕄)
    = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Between points: the scratch buffers hold the overlaps of the blocks already met. -/
def between (c : Dev nD) (t : ℕ) : sProp 𝕄 :=
  iprop(∃ d4, ∃ d5, ⌜Filled (blk0 m c) (blk1 m c) t d4 d5⌝ ∗ owns (c : Thread nD τ) scr0 fullShare d4 ∗ owns (c : Thread nD τ) scr1 fullShare d5
    ∗ (∃ r, prngReg c r))

/-- The pipeline's proof data: inputs stay, the output block holds the marks once written, the scratch invariant between points. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock m c
  Φ t := between m c t.val
  q _ := fullShare
  owed _ := 0

theorem data_A (c : Dev nD) (w : Fin cfg0.W) : (data m 0 c).A w = V m c (Pipeline.arrRef spec0 w) := by
  dsimp only [data]
theorem data_after0 (c : Dev nD) (t : Fin cfg0.N) : (data m 0 c).after 0 t = iblk m c 0 t := by dsimp only [data]
theorem data_after1 (c : Dev nD) (t : Fin cfg0.N) : (data m 0 c).after 1 t = iblk m c 1 t := by dsimp only [data]
theorem data_after2 (c : Dev nD) (t : Fin cfg0.N) : (data m 0 c).after 2 t = outBlock m c := by dsimp only [data]
theorem data_before0 (c : Dev nD) (t : Fin cfg0.N) (d) : (data m 0 c).before 0 t d = iblk m c 0 t :=
  before0_0_of m (data m 0 c) (data_A m c 0) (data_after0 m c) t d
theorem data_before1 (c : Dev nD) (t : Fin cfg0.N) (d) : (data m 0 c).before 1 t d = iblk m c 1 t :=
  before0_1_of m (data m 0 c) (data_A m c 1) (data_after1 m c) t d

/-- At the last point the output block is written back … -/
theorem out_last (c : Dev nD) (t : Fin cfg0.N) (h : t.val % 16 = 15) :
    (data m 0 c).leavesExact 2 t = owns (c : Thread nD τ) (st2 t) fullShare (outBlock m c) := by
  have hi : cfg0.idle 2 (cfg0.grid.coords t) = false := by
    show (!(k0_cond1 (grid0.coords t) == 1#1)) = false
    rw [(last_iff t).mpr h]; rfl
  unfold Dat.leavesExact; rw [hi, data_after2]

/-- … and at the others it is left as found. -/
theorem out_early (c : Dev nD) (t : Fin cfg0.N) (h : ¬ t.val % 16 = 15) :
    (data m 0 c).leavesExact 2 t = iprop(∃ d, owns (c : Thread nD τ) (st2 t) fullShare ((data m 0 c).before 2 t d)) := by
  have hi : cfg0.idle 2 (cfg0.grid.coords t) = true := by
    show (!(k0_cond1 (grid0.coords t) == 1#1)) = true
    have : ¬ k0_cond1 (grid0.coords t) = 1#1 := fun e => h ((last_iff t).mp e)
    simp [this]
  have hf : (cfg0.win 2).flush t = false := by
    rcases hb : (cfg0.win 2).flush t with _ | _
    · rfl
    · exact absurd ((flush0_2 t).mp hb) h
  exact (data m 0 c).leavesExact_idle 2 t hi hf

/-- What the body is called with at point `t`, the windows one by one, -/
def found (c : Dev nD) (t : Fin cfg0.N) : sProp 𝕄 :=
  iprop((data m 0 c).Φ t.castSucc ∗ (data m 0 c).owesAt () t.castSucc
    ∗ (∃ d, owns (c : Thread nD τ) (st0 t) fullShare ((data m 0 c).before 0 t d))
    ∗ (∃ d, owns (c : Thread nD τ) (st1 t) fullShare ((data m 0 c).before 1 t d))
    ∗ (∃ d, owns (c : Thread nD τ) (st2 t) fullShare ((data m 0 c).before 2 t d)))

/-- and what it returns. -/
def left (c : Dev nD) (t : Fin cfg0.N) : sProp 𝕄 :=
  iprop((data m 0 c).Φ t.succ ∗ (data m 0 c).owesAt () t.succ
    ∗ (data m 0 c).leavesExact 0 t ∗ (data m 0 c).leavesExact 1 t ∗ (data m 0 c).leavesExact 2 t)

set_option maxHeartbeats 800000 in
/-- The body at any point turns the one into the other. -/
theorem body_sound (c : Dev nD) (t : Fin cfg0.N) :
    found m c t ⊢ wp frame (wpE (defs₀ (F := F)) Variants.none c none) Set.univ (bodyAt0 t) (fun _ => left m c t) := by
  unfold found left bodyAt0
  simp only [data_before0, data_before1]
  have hN : t.val < 16 := lt_of_lt_of_eq t.isLt (show cfg0.N = 16 from N_0)
  have hp : pt ⟨t.val, hN⟩ = t := rfl
  have e0 : blk0 m c ⟨t.val, hN⟩ = iblk m c 0 t := rfl
  have e1 : blk1 m c ⟨t.val, hN⟩ = iblk m c 1 t := rfl
  rw [show (data m 0 c).owesAt () t.succ = (data m 0 c).owesAt () t.castSucc from rfl,
    show (data m 0 c).Φ t.castSucc = between m c t.val from rfl, show (data m 0 c).Φ t.succ = between m c (t.val + 1) from rfl,
    show (data m 0 c).leavesExact 0 t = owns (c : Thread nD τ) (st0 t) fullShare (iblk m c 0 t) from by
      unfold Dat.leavesExact; rw [show cfg0.idle 0 (cfg0.grid.coords t) = false from rfl, data_after0],
    show (data m 0 c).leavesExact 1 t = owns (c : Thread nD τ) (st1 t) fullShare (iblk m c 1 t) from by
      unfold Dat.leavesExact; rw [show cfg0.idle 1 (cfg0.grid.coords t) = false from rfl, data_after1]]
  unfold between
  by_cases h : t.val % 16 = 15
  · rw [out_last m c t h]
    iintro ⟨⟨%d4, %d5, %hfill, HS0, HS1, Hg⟩, Ho, ⟨%d0, H0⟩, ⟨%d1, H1⟩, ⟨%d2, H2⟩⟩
    have hstep := Filled.step (blk0 m c) (blk1 m c) (t := t) (b := ⟨t.val, hN⟩) rfl hfill
    rw [e0, e1] at hstep
    have h15 : t.val + 1 = 16 := by omega
    have hfull := Filled.full (blk0 m c) (blk1 m c) (h15 ▸ hstep)
    iapply ((body_last c (grid0.coords t) _ _ _ _ _ _ _ _ _ _ ((last_iff t).mpr h) (iblk m c 0 t) (iblk m c 1 t) d4 d5) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · iexists (rowsAfter (grid0.coords t) (iblk m c 0 t) (iblk m c 1 t) d4), (colsAfter (grid0.coords t) (iblk m c 0 t) (iblk m c 1 t) d5)
      isplitl []
      · ipureintro; exact hstep
      isplitl [HS0]; · iexact HS0
      isplitl [HS1]; · iexact HS1
      iexact Hg
    isplitl [Ho]; · iexact Ho
    isplitl [H0]; · iexact H0
    isplitl [H1]; · iexact H1
    rw [hfull.1, hfull.2]
    iexact H2
  · rw [out_early m c t h]
    iintro ⟨⟨%d4, %d5, %hfill, HS0, HS1, Hg⟩, Ho, ⟨%d0, H0⟩, ⟨%d1, H1⟩, ⟨%d2, H2⟩⟩
    have hstep := Filled.step (blk0 m c) (blk1 m c) (t := t) (b := ⟨t.val, hN⟩) rfl hfill
    rw [e0, e1] at hstep
    iapply ((body_early c (grid0.coords t) _ _ _ _ _ _ _ _ _ _ (fun e => h ((last_iff t).mp e)) (iblk m c 0 t) (iblk m c 1 t) _ d4 d5) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · iexists (rowsAfter (grid0.coords t) (iblk m c 0 t) (iblk m c 1 t) d4), (colsAfter (grid0.coords t) (iblk m c 0 t) (iblk m c 1 t) d5)
      isplitl []
      · ipureintro; exact hstep
      isplitl [HS0]; · iexact HS0
      isplitl [HS1]; · iexact HS1
      iexact Hg
    isplitl [Ho]; · iexact Ho
    isplitl [H0]; · iexact H0
    isplitl [H1]; · iexact H1
    iexists _
    iexact H2

/-- The body table's row at point `t`'s slots is the body at that point. -/
theorem row_eq (t : Fin cfg0.N) : defs₀ (F := F) .tc cfg0.body (cfg0.bodyArgs t (cfg0.slots t)) = bodyAt0 t := by
  unfold defs₀; rw [Defs.onTc_tc]

/-- The body obligation at every point. -/
theorem obligation (c : Dev nD) : BodyObligation (data (F := F) m 0 c) (defs₀ (F := F)) Variants.none () Set.univ := fun t => by
  rw [bigSep_W0, bigSep_W0, row_eq]
  exact triple_restated (body_sound m c t) rfl .rfl fun _ => .rfl

/-- Before the first point nothing is asked of the scratch buffers. -/
theorem enter (c : Dev nD) : (Pipeline.ΦA spec0 c : sProp 𝕄) ⊢ (data m 0 c).Φ 0 := by
  rw [kept_eq, show (data m 0 c).Φ 0 = between m c 0 from rfl]
  unfold between
  iintro ⟨⟨⟨%d4, HS0⟩, ⟨%d5, HS1⟩⟩, Hg⟩
  iexists d4, d5
  isplitl []
  · ipureintro; exact filled_zero _ _ d4 d5
  isplitl [HS0]; · iexact HS0
  isplitl [HS1]; · iexact HS1
  iexact Hg

/-- After the last point their contents are forgotten. -/
theorem leave (c : Dev nD) : (data m 0 c).Φ (Fin.last cfg0.N) ⊢ (Pipeline.ΦA spec0 c : sProp 𝕄) := by
  rw [kept_eq, show (data m 0 c).Φ (Fin.last cfg0.N) = between m c cfg0.N from rfl]
  unfold between
  iintro ⟨%d4, %d5, -, HS0, HS1, Hg⟩
  isplitl [HS0 HS1]
  · isplitl [HS0]
    · iexists _; iexact HS0
    iexists _; iexact HS1
  iexact Hg

set_option backward.isDefEq.respectTransparency.types false in
set_option maxHeartbeats 800000 in
/-- The run: every array at its final contents, every other buffer as the lines after the region leave it, every counter zero. -/
theorem run_all : θ_run defs (onTc (τ := τ) (main (F := F))) (s₀ m ρ)
    (fun r => (Pipeline.FramePost cfgs (data m) 0 (Pipeline.afterTail₀ cfgs (data m) 0 (V0 m) [hostOps1])) r ∧ r.2.sem = fun _ => 0) :=
  Pipeline.θ_run_frame_around_track (Q' := _) cfgs (data m) (0 : Fin 1) launch0 defs₀ Variants.none m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hmain := hmain m Variants.none) (hA := data_A m) (hin := enter m) (hout := leave m)

/-- The arguments end as launched and every counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) ((θ_run defs _ _).mono (fun _ h => h.1) (run_all m ρ)))
    ((θ_run defs _ _).mono (fun _ h => h.2) (run_all m ρ))

end Cert.KernelIdeal.Rank

end
-- ==== Proof.Result.lean ====
/-
  What the buffers hold at the ends of the region: the blocks the points read, as entries of the two arguments, and
  the result, as the marks of the last point in order.
-/
module

public import proofs.«01_k».proof.Proof.Region

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix1 ix2 ix3 eq_ix1 eq_ix2 eq_ix3)

variable (m : (ℓ : Loc nD τ sig) → Buf (Elt F) ℓ) (ρ : Dev nD → PrngReg)

/-- The output's one block starts at the array's origin. -/
theorem out_origin (t : Fin cfg0.N) : (fun a => win0_2.index t a * main_v1.ty.shape.size a) = fun _ => 0 :=
  funext fun a => by
    match a with
    | ⟨0, _⟩ => exact Nat.zero_mul _
    | ⟨1, _⟩ => exact Nat.zero_mul _

/-- The result array ends holding the marks. -/
theorem final_out (c : Dev nD) : (data m 0 c).arrAt 2 cfg0.N = outBlock m c := by
  refine (data m 0 c).arrAt_eq_of_cover 2 (outBlock m c) (fun t hf => ?_) (fun i => ?_)
  · show (cfg0.win 2).cut (grid0.coords t) ((data m 0 c).after 2 t) = _
    rw [data_after2]
    exact (Memref.read_access_unit_zero (Elt F) main_v1 (out_origin t) (fun a => by rw [congrFun (out_origin t) a]; simp) (outBlock m c)).symm
  · refine ⟨pt 15, (flush0_2 _).mpr rfl, ?_⟩
    show i ∈ ((View.whole main_v1).slice (win0_2.rect (pt 15))).set
    rw [View.set_slice_whole, Rect.mem_set_unit]
    intro a
    have h0 : (i 0 : Nat) < 16 := (i 0).isLt
    have h1 : (i 1 : Nat) < 128 := (i 1).isLt
    match a with
    | ⟨0, _⟩ =>
      show win0_2.index (pt 15) 0 * win0_2.size 0 ≤ (i 0 : Nat) ∧ (i 0 : Nat) < win0_2.index (pt 15) 0 * win0_2.size 0 + win0_2.xsize (grid0.coords (pt 15)) 0
      rw [show win0_2.index (pt 15) 0 * win0_2.size 0 = 0 from Nat.zero_mul _, show win0_2.xsize (grid0.coords (pt 15)) 0 = 16 from by decide +kernel]; omega
    | ⟨1, _⟩ =>
      show win0_2.index (pt 15) 1 * win0_2.size 1 ≤ (i 1 : Nat) ∧ (i 1 : Nat) < win0_2.index (pt 15) 1 * win0_2.size 1 + win0_2.xsize (grid0.coords (pt 15)) 1
      rw [show win0_2.index (pt 15) 1 * win0_2.size 1 = 0 from Nat.zero_mul _, show win0_2.xsize (grid0.coords (pt 15)) 1 = 128 from by decide +kernel]; omega

/-- The reshaped result is the marks in order. -/
theorem final_result (c : Dev nD) :
    Pipeline.afterTail₀ cfgs (data m) 0 (V0 m) [hostOps1] c main_v2 = shapeCast S2048 (outBlock m c) shapeCasts_S16x128_S2048 := by
  unfold Pipeline.afterTail₀
  show StableHlo.after [StableHlo.reshape main_v1 main_v2 (rfl : (.f32 : EltTy) = .f32) shapeCasts_S16x128_S2048] _ _ = _
  after_results
  have h := Pipeline.withArrays_arr (cfgs 0).spec launch0.win.arr_inj c (V0 m c) (fun w => (data m 0 c).arrAt w (cfgs 0).N) 2
  have h' := h.trans (final_out m c)
  show shapeCast S2048 (Pipeline.withArrays (cfgs 0).spec c (V0 m c) (fun w => (data m 0 c).arrAt w (cfgs 0).N) (Proc.tc.devRef (Pipeline.arrRef (cfgs 0).spec 2))) _ = _
  rw [h']

/-- The run's result: the marks in order; the arguments end as launched. -/
theorem run_result : θ_run defs (onTc (τ := τ) (main (F := F))) ⟨m, fun _ => 0, ρ⟩ (fun r => ∀ c : Dev nD,
      r.2.mem ((c.tc : Thread nD τ).loc main_v2) = shapeCast S2048 (outBlock m c) shapeCasts_S16x128_S2048) :=
  (θ_run defs _ _).mono (fun _ h c => (((h.1 c).2 main_v2 (Pipeline.mem_restRefs_of main_v2 (by decide) (by decide))).trans (final_result m c)))
    (run_all m ρ)

/-- The region finds the input as one row of the argument. -/
theorem row_entry (c : Dev nD) : V m c main_v0 = shapeCast S1x16384 (m ((c : Thread nD τ).loc main_arg0)) shapeCasts_S16384_S1x16384 := by
  show StableHlo.after [StableHlo.reshape main_arg0 main_v0 (rfl : (.f32 : EltTy) = .f32) shapeCasts_S16384_S1x16384] _ _ = _
  after_results
  rfl

/-- Every point reads the whole input. -/
theorem blk0_apply (c : Dev nD) (b : Fin 16) (k : Fin 16384) :
    blk0 m c b (ix2 (0 : Fin 1) k) = m ((c : Thread nD τ).loc main_arg0) (ix1 k) := by
  have h : blk0 m c b (ix2 (0 : Fin 1) k) = V m c main_v0 (ix2 (0 : Fin 1) k) := by
    show V m c main_v0 _ = _
    congr 1
    funext a
    match a with
    | ⟨0, _⟩ => exact Fin.ext rfl
    | ⟨1, _⟩ => exact Fin.ext (by show 0 * 16384 + 1 * k.val = k.val; omega)
  rw [h, row_entry]
  exact ValueIdx.shapeCast_a_1a_apply _ _ 0 k

/-- Point `b` reads the connections of rows `128 b` on. -/
theorem blk1_apply (c : Dev nD) (b : Fin 16) (l : Fin 128) (k : Fin 16384) :
    blk1 m c b (ix2 l k) = m ((c : Thread nD τ).loc main_arg1) (ix2 (⟨128 * b.val + l.val, by omega⟩ : Fin 2048) k) := by
  have h : blk1 m c b (ix2 l k) = V m c main_arg1 (ix2 (⟨128 * b.val + l.val, by omega⟩ : Fin 2048) k) := by
    show V m c main_arg1 _ = _
    congr 1
    funext a
    match a with
    | ⟨0, _⟩ =>
      refine Fin.ext ?_
      show win0_1.index (pt b) 0 * 128 + 1 * l.val = 128 * b.val + l.val
      have : win0_1.index (pt b) 0 = b.val := by
        show (BitVec.ofNat 32 (grid0.coords (pt b) 0).val).toNat = b.val
        rw [coord_eq, BitVec.toNat_ofNat]
        show b.val % _ = _
        omega
      rw [this]; omega
    | ⟨1, _⟩ => exact Fin.ext (by show 0 * 16384 + 1 * k.val = k.val; omega)
  rw [h, V_main_arg1]

end Cert.KernelIdeal.Rank

end
-- ==== Proof.SameText.lean ====
/-
  The kernel on words and the kernel over the extended reals are one text, printed twice: their body tables and mains
  are equal at any float values, so a fact that holds of one at any float values holds of the other.
-/
module

public import proofs.«01_k».proof.Defs
public import proofs.«01_k».proof.Proof.Region
public import proofs.«01_k».proof.Proof.Gen.Kernel

@[expose] public section

set_option maxRecDepth 16384

noncomputable section

namespace Cert.Proof.SameText

open Idealize.ShloMosaic Idealize.SL.Sem

variable {F : FTy → Type} [FloatOps F]

/-- The two mains are the same. -/
theorem main_eq : Cert.Kernel.main (F := F) = Cert.KernelIdeal.main (F := F) := rfl

/-- The two kernel bodies are the same. -/
theorem body_eq : Cert.Kernel.cc0__fused_body (F := F) = Cert.KernelIdeal.cc0__fused_body (F := F) := rfl

/-- The kernels' body tables are the same: at the one label, the body at the same grid point and buffers. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- The whole body tables are the same. -/
theorem defs_eq : Cert.Kernel.defs (F := F) = Cert.KernelIdeal.defs (F := F) :=
  congrArg (Pipeline.defs Cert.KernelIdeal.pcfgs) bodies_eq

/-- What holds at the end of every execution of the one holds at the end of every execution of the other. -/
theorem transfer {s : MemSt Cert.KernelIdeal.nD Cert.KernelIdeal.τ Cert.KernelIdeal.sig (Elt F)} {Q : _ → Prop}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun d => θ_run d (onTc (τ := Cert.KernelIdeal.τ) (Cert.KernelIdeal.main (F := F))) s Q) (defs_eq (F := F))).mpr h

end Cert.Proof.SameText

end
-- ==== Proof.RowValue.lean ====
/-
  One row of marks over the extended reals: each of its 128 entries counts, over all rows of overlaps, the overlaps
  that beat it, and is one when the count is below 40 and zero otherwise.
-/
module

public import proofs.«01_k».proof.Proof.Steps
public import Idealize.ShloMosaic.PureOps.Ideal.Laws

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix1 ix2 ix3 eq_ix1 eq_ix2 eq_ix3 broadcast_apply cmpf_apply select_apply extui_apply sitofp_apply)

/-! ## The constants -/

theorem one_word : (Scalar.ofBits (F := Ideal) .f32 0x3F800000#32 : EReal) = 1 := by
  show Ideal.ofBits .f32 _ = 1
  simp [Ideal.ofBits, Ideal.ieee, -EReal.coe_mul]
  norm_num
theorem zero_word : (Scalar.ofBits (F := Ideal) .f32 0x00000000#32 : EReal) = 0 := by
  show Ideal.ofBits .f32 _ = 0
  simp [Ideal.ofBits, Ideal.ieee, -EReal.coe_mul]
theorem forty_word : (Scalar.ofBits (F := Ideal) .f32 0x42200000#32 : EReal) = 40 := by
  show Ideal.ofBits .f32 _ = 40
  simp [Ideal.ofBits, Ideal.ieee, -EReal.coe_mul]
  norm_num
  rfl

/-- Choosing between one and zero by a condition's bit is counting it. -/
theorem pick (b : BitVec 1) :
    (Scalar.select b (Scalar.ofBits (F := Ideal) .f32 0x3F800000#32) (Scalar.ofBits (F := Ideal) .f32 0x00000000#32) : EReal)
      = ((if b = 1#1 then 1 else 0 : ℕ) : EReal) := by
  rw [one_word, zero_word]
  rcases BitVec.eq_zero_or_eq_one b with rfl | rfl
  · simp [Scalar.select]
  · simp [Scalar.select]

/-! ## Sums over the planes -/

/-- A sum over the entries of a three-axis array is the triple sum over its coordinates. -/
theorem sum_entries {M : Type*} [AddCommMonoid M] {a b c : ℕ} (f : (⟨3, ![a, b, c]⟩ : Shape).Idx → M) :
    ∑ i, f i = ∑ x : Fin a, ∑ y : Fin b, ∑ z : Fin c, f (ix3 x y z) := by
  rw [← Equiv.sum_comp (⟨fun p => ix3 p.1 p.2.1 p.2.2, fun i => (i 0, i 1, i 2), fun _ => rfl, fun i => (eq_ix3 i).symm⟩ :
    Fin a × Fin b × Fin c ≃ (⟨3, ![a, b, c]⟩ : Shape).Idx) f]
  simp only [Fintype.sum_prod_type]
  rfl

/-- The sum of a stack of planes over the first and last axes, at lane row `l`. -/
theorem stack_sum {n : ℕ} (X : FVec Ideal ⟨3, ![n, 128, 128]⟩ .f32) (acc : BitVec 32)
    (h : (⟨3, ![n, 128, 128]⟩ : Shape).Reduces [0, 2] S128) (hφ) (hacc) (l : Fin 128) :
    multiReduction .add [0, 2] S128 X acc h hφ hacc (ix1 l) = (∑ r : Fin n, ∑ j : Fin 128, X (ix3 r l j) : EReal) := by
  show (∑ i ∈ Finset.univ.filter (fun i => h.drop i = ix1 l), X i : EReal) = _
  have hd : ∀ i, h.drop i = ix1 l ↔ (i 1).val = l.val := by
    intro i
    constructor
    · intro e
      exact congrArg Fin.val (congrFun e 0)
    · intro e
      funext b
      match b with
      | ⟨0, _⟩ => exact Fin.ext e
  rw [Finset.sum_congr (Finset.filter_congr fun i _ => hd i) fun _ _ => rfl, Finset.sum_filter, sum_entries]
  refine Finset.sum_congr rfl fun r _ => ?_
  rw [Finset.sum_eq_single l]
  · refine Finset.sum_congr rfl fun j _ => ?_
    exact if_pos rfl
  · intro b _ hb
    refine Finset.sum_eq_zero fun j _ => if_neg fun e => hb (Fin.ext e)
  · intro hl; exact absurd (Finset.mem_univ l) hl

/-- The sum of one plane along its rows, at row `l`. -/
theorem plane_sum {n : ℕ} (X : FVec Ideal ⟨2, ![128, n]⟩ .f32) (acc : BitVec 32) (h : (⟨2, ![128, n]⟩ : Shape).Reduces [1] S128) (hφ) (hacc) (l : Fin 128) :
    multiReduction .add [1] S128 X acc h hφ hacc (ix1 l) = (∑ j : Fin n, X (ix2 l j) : EReal) := by
  refine (Idealize.ShloMosaic.Ideal.multiReduction_add_single X acc h hφ hacc (ix1 l)).trans ?_
  refine Finset.sum_congr rfl fun j _ => congrArg X ?_
  funext a
  match a with
  | ⟨0, _⟩ => rfl
  | ⟨1, _⟩ => rfl

/-- Counting commutes with the passage to the extended reals. -/
theorem cast_count {ι κ : Type*} (s : Finset ι) (t : Finset κ) (f : ι → κ → ℕ) :
    (∑ i ∈ s, ∑ j ∈ t, ((f i j : ℕ) : EReal)) = ((∑ i ∈ s, ∑ j ∈ t, f i j : ℕ) : EReal) := by
  push_cast; rfl

/-! ## The parts of one row's rank -/

/-- A stack of planes cut from the overlaps, entry by entry. -/
theorem stack_entry {n o : ℕ} (pl : FVec Ideal S16x128 .f32) (hs : S16x128.Slices ![o, 0] ⟨2, ![n, 128]⟩)
    (hc : (⟨2, ![n, 128]⟩ : Shape).ShapeCasts ⟨3, ![n, 1, 128]⟩) (hb : (⟨3, ![n, 1, 128]⟩ : Shape).Broadcasts ⟨3, ![n, 128, 128]⟩)
    (r : Fin n) (l j : Fin 128) (k : Fin 16) (hk : k.val = o + r.val) :
    broadcastTo ⟨3, ![n, 128, 128]⟩ (shapeCast ⟨3, ![n, 1, 128]⟩ (extractStridedSlice ⟨2, ![n, 128]⟩ ![o, 0] pl hs) hc) hb (ix3 r l j)
      = pl (ix2 k j) := by
  refine (broadcastTo_apply _ _ (ix3 r l j) (ix3 r (0 : Fin 1) j) ?_).trans ?_
  · intro a
    match a with
    | ⟨0, _⟩ =>
      show r.val = if n = 1 then 0 else r.val
      split
      · next h => subst h; omega
      · rfl
    | ⟨1, _⟩ => rfl
    | ⟨2, _⟩ => rfl
  refine (shapeCast_apply _ hc (ix3 r (0 : Fin 1) j) (ix2 r j) ?_).trans ?_
  · rw [Shape.rowMajor_val_two, Shape.rowMajor_val_three]
    show r.val * 128 + j.val = (r.val * 1 + 0) * 128 + j.val
    omega
  exact ValueIdx.slice2_axis0_apply o pl hs r j k hk

/-- The block's own overlaps, one plane for every plane of a stack. -/
theorem own_entry {n : ℕ} (C : FVec Ideal S128x128 .f32) (hc : S128x128.ShapeCasts S1x128x128)
    (hb : S1x128x128.Broadcasts ⟨3, ![n, 128, 128]⟩) (r : Fin n) (l j : Fin 128) :
    broadcastTo ⟨3, ![n, 128, 128]⟩ (shapeCast S1x128x128 C hc) hb (ix3 r l j) = C (ix2 l j) := by
  refine (broadcastTo_apply _ _ (ix3 r l j) (ix3 (0 : Fin 1) l j) ?_).trans (ValueIdx.shapeCast_ab_1ab_apply C hc 0 l j)
  intro a
  match a with
  | ⟨0, _⟩ => rfl
  | ⟨1, _⟩ => rfl
  | ⟨2, _⟩ => rfl

/-- The sum of a chosen stack of ones and zeros is the count of the choices. -/
theorem count_stack {n : ℕ} (p : CmpFPredicate) (A B : FVec Ideal ⟨3, ![n, 128, 128]⟩ .f32)
    (h : (⟨3, ![n, 128, 128]⟩ : Shape).Reduces [0, 2] S128) (hφ) (hacc) (l : Fin 128) :
    multiReduction .add [0, 2] S128
        (select (cmpf p A B) (broadcast ⟨3, ![n, 128, 128]⟩ (Scalar.ofBits (F := Ideal) .f32 0x3F800000#32)) (broadcast ⟨3, ![n, 128, 128]⟩ (Scalar.ofBits (F := Ideal) .f32 0x00000000#32)))
        0x00000000#32 h hφ hacc (ix1 l)
      = ((∑ r : Fin n, ∑ j : Fin 128, if Idealize.ShloMosaic.Ideal.cmp p (A (ix3 r l j)) (B (ix3 r l j)) = 1#1 then 1 else 0 : ℕ) : EReal) := by
  rw [stack_sum, ← cast_count]
  refine Finset.sum_congr rfl fun r _ => Finset.sum_congr rfl fun j _ => ?_
  exact pick _

/-- How many overlaps of the rows `o … o + n - 1` compare with the overlap of row `l` of the block as `p` says. -/
def stackCount (p : CmpFPredicate) (o n : ℕ) (pl : FVec Ideal S16x128 .f32) (C : FVec Ideal S128x128 .f32) (l : Fin 128) : ℕ :=
  ∑ r : Fin 16, ∑ j : Fin 128, if (o ≤ r.val ∧ r.val < o + n) ∧ Idealize.ShloMosaic.Ideal.cmp p (pl (ix2 r j)) (C (ix2 l j)) = 1#1 then 1 else 0

/-- A sum over `n` consecutive rows is a sum over all rows that skips the others. -/
theorem sum_rows {o n : ℕ} (hn : o + n ≤ 16) (f : Fin 16 → ℕ) :
    ∑ r : Fin n, f ⟨o + r.val, by omega⟩ = ∑ r : Fin 16, if o ≤ r.val ∧ r.val < o + n then f r else 0 := by
  rw [← Finset.sum_filter]
  refine Finset.sum_bij' (fun r _ => ⟨o + r.val, by omega⟩) (fun r hr => ⟨r.val - o, by have := (Finset.mem_filter.mp hr).2; omega⟩) ?_ ?_ ?_ ?_ ?_
  · intro r _; exact Finset.mem_filter.mpr ⟨Finset.mem_univ _, by show o ≤ o + r.val ∧ o + r.val < o + n; omega⟩
  · intro r _; exact Finset.mem_univ _
  · intro r _; exact Fin.ext (by show o + r.val - o = r.val; omega)
  · intro r hr; exact Fin.ext (by have := (Finset.mem_filter.mp hr).2; show o + (r.val - o) = r.val; omega)
  · intro r _; rfl

/-- The count over a stack whose entries are known. -/
theorem count_known {n o : ℕ} (hn : o + n ≤ 16) (p : CmpFPredicate) (pl : FVec Ideal S16x128 .f32) (C : FVec Ideal S128x128 .f32)
    (A B : FVec Ideal ⟨3, ![n, 128, 128]⟩ .f32)
    (h : (⟨3, ![n, 128, 128]⟩ : Shape).Reduces [0, 2] S128) (hφ) (hacc) (l : Fin 128)
    (hA : ∀ r j, A (ix3 r l j) = pl (ix2 ⟨o + r.val, by omega⟩ j)) (hB : ∀ r j, B (ix3 r l j) = C (ix2 l j)) :
    multiReduction .add [0, 2] S128
        (select (cmpf p A B) (broadcast ⟨3, ![n, 128, 128]⟩ (Scalar.ofBits (F := Ideal) .f32 0x3F800000#32)) (broadcast ⟨3, ![n, 128, 128]⟩ (Scalar.ofBits (F := Ideal) .f32 0x00000000#32)))
        0x00000000#32 h hφ hacc (ix1 l)
      = ((stackCount p o n pl C l : ℕ) : EReal) := by
  refine (count_stack p A B h hφ hacc l).trans (congrArg (Nat.cast : ℕ → EReal) ?_)
  simp only [hA, hB]
  rw [sum_rows hn (fun r => ∑ j : Fin 128, if Idealize.ShloMosaic.Ideal.cmp p (pl (ix2 r j)) (C (ix2 l j)) = 1#1 then 1 else 0)]
  unfold stackCount
  refine Finset.sum_congr rfl fun r _ => ?_
  by_cases hr : o ≤ r.val ∧ r.val < o + n
  · simp [hr]
  · simp [hr]

/-- The count over rows cut from the overlaps. -/
theorem count_rows {n o : ℕ} (hn : o + n ≤ 16) (p : CmpFPredicate) (pl : FVec Ideal S16x128 .f32) (C : FVec Ideal S128x128 .f32)
    (hs : S16x128.Slices ![o, 0] ⟨2, ![n, 128]⟩)
    (hc : (⟨2, ![n, 128]⟩ : Shape).ShapeCasts ⟨3, ![n, 1, 128]⟩) (hb : (⟨3, ![n, 1, 128]⟩ : Shape).Broadcasts ⟨3, ![n, 128, 128]⟩)
    (hc' : S128x128.ShapeCasts S1x128x128) (hb' : S1x128x128.Broadcasts ⟨3, ![n, 128, 128]⟩)
    (h : (⟨3, ![n, 128, 128]⟩ : Shape).Reduces [0, 2] S128) (hφ) (hacc) (l : Fin 128) :
    multiReduction .add [0, 2] S128
        (select (cmpf p (broadcastTo ⟨3, ![n, 128, 128]⟩ (shapeCast ⟨3, ![n, 1, 128]⟩ (extractStridedSlice ⟨2, ![n, 128]⟩ ![o, 0] pl hs) hc) hb)
            (broadcastTo ⟨3, ![n, 128, 128]⟩ (shapeCast S1x128x128 C hc') hb'))
          (broadcast ⟨3, ![n, 128, 128]⟩ (Scalar.ofBits (F := Ideal) .f32 0x3F800000#32)) (broadcast ⟨3, ![n, 128, 128]⟩ (Scalar.ofBits (F := Ideal) .f32 0x00000000#32)))
        0x00000000#32 h hφ hacc (ix1 l)
      = ((stackCount p o n pl C l : ℕ) : EReal) :=
  count_known hn p pl C _ _ h hφ hacc l (fun r j => stack_entry pl hs hc hb r l j _ rfl) (fun r j => own_entry C hc' hb' r l j)

/-- The count over one row cut from the overlaps. -/
theorem count_row {o : ℕ} (hn : o + 1 ≤ 16) (p : CmpFPredicate) (pl : FVec Ideal S16x128 .f32) (C : FVec Ideal S128x128 .f32)
    (hs : S16x128.Slices ![o, 0] S1x128) (hc : S1x128.ShapeCasts S1x1x128) (hb : S1x1x128.Broadcasts S1x128x128)
    (hc' : S128x128.ShapeCasts S1x128x128) (h : S1x128x128.Reduces [0, 2] S128) (hφ) (hacc) (l : Fin 128) :
    multiReduction .add [0, 2] S128
        (select (cmpf p (broadcastTo S1x128x128 (shapeCast S1x1x128 (extractStridedSlice S1x128 ![o, 0] pl hs) hc) hb) (shapeCast S1x128x128 C hc'))
          (broadcast S1x128x128 (Scalar.ofBits (F := Ideal) .f32 0x3F800000#32)) (broadcast S1x128x128 (Scalar.ofBits (F := Ideal) .f32 0x00000000#32)))
        0x00000000#32 h hφ hacc (ix1 l)
      = ((stackCount p o 1 pl C l : ℕ) : EReal) :=
  count_known hn p pl C _ _ h hφ hacc l (fun r j => stack_entry (n := 1) pl hs hc hb r l j _ rfl)
    (fun r j => ValueIdx.shapeCast_ab_1ab_apply C hc' r l j)

/-- The count over all the rows. -/
theorem count_all (p : CmpFPredicate) (pl : FVec Ideal S16x128 .f32) (C : FVec Ideal S128x128 .f32)
    (hc : S16x128.ShapeCasts S16x1x128) (hb : S16x1x128.Broadcasts S16x128x128)
    (hc' : S128x128.ShapeCasts S1x128x128) (hb' : S1x128x128.Broadcasts S16x128x128) (h : S16x128x128.Reduces [0, 2] S128) (hφ) (hacc) (l : Fin 128) :
    multiReduction .add [0, 2] S128
        (select (cmpf p (broadcastTo S16x128x128 (shapeCast S16x1x128 pl hc) hb) (broadcastTo S16x128x128 (shapeCast S1x128x128 C hc') hb'))
          (broadcast S16x128x128 (Scalar.ofBits (F := Ideal) .f32 0x3F800000#32)) (broadcast S16x128x128 (Scalar.ofBits (F := Ideal) .f32 0x00000000#32)))
        0x00000000#32 h hφ hacc (ix1 l)
      = ((stackCount p 0 16 pl C l : ℕ) : EReal) := by
  refine count_known (by decide) p pl C _ _ h hφ hacc l (fun r j => ?_) (fun r j => own_entry C hc' hb' r l j)
  refine (broadcastTo_apply _ _ (ix3 r l j) (ix3 r (0 : Fin 1) j) ?_).trans ?_
  · intro a
    match a with
    | ⟨0, _⟩ => rfl
    | ⟨1, _⟩ => rfl
    | ⟨2, _⟩ => rfl
  refine shapeCast_apply _ hc (ix3 r (0 : Fin 1) j) (ix2 ⟨0 + r.val, by omega⟩ j) ?_
  rw [Shape.rowMajor_val_two, Shape.rowMajor_val_three]
  show (0 + r.val) * 128 + j.val = (r.val * 1 + 0) * 128 + j.val
  omega

/-- How many earlier overlaps of row `o` equal the overlap of row `l` of the block. -/
def tieCount (o : Fin 16) (pl : FVec Ideal S16x128 .f32) (C : FVec Ideal S128x128 .f32) (l : Fin 128) : ℕ :=
  ∑ j : Fin 128, if pl (ix2 o j) = C (ix2 l j) ∧ j.val < l.val then 1 else 0

/-- The mask of the lanes before the row's own. -/
theorem earlier (l j : Fin 128) : k0_pay5 (ix2 l j) = BitVec.ofBool (decide (j.val < l.val)) := by
  unfold k0_pay5
  show IntOp.cmpi .slt (iota .tc S128x128 32 [1] iota_S128x128_d1_w32 (ix2 l j)) (iota .tc S128x128 32 [0] iota_S128x128_d0_w32 (ix2 l j)) = _
  rw [iota_single_apply, iota_single_apply]
  show BitVec.ofBool ((BitVec.ofNat 32 j.val).slt (BitVec.ofNat 32 l.val)) = _
  congr 1
  have hj := j.isLt
  have hl := l.isLt
  have hw : ∀ k : ℕ, k < 128 → (BitVec.ofNat 32 k).toInt = (k : ℤ) := by
    intro k hk
    rw [BitVec.toInt_eq_toNat_of_lt (by rw [BitVec.toNat_ofNat]; omega), BitVec.toNat_ofNat, Nat.mod_eq_of_lt (by omega)]
  rw [BitVec.slt_eq_decide, hw _ hj, hw _ hl]
  exact decide_eq_decide.mpr Int.ofNat_lt

/-- The tie part of a row's rank. -/
theorem count_ties (o : Fin 16) (pl : FVec Ideal S16x128 .f32) (C : FVec Ideal S128x128 .f32)
    (hs : S16x128.Slices ![o.val, 0] S1x128) (hb : S1x128.Broadcasts S128x128) (h : S128x128.Reduces [1] S128) (hφ) (hacc) (l : Fin 128) :
    multiReduction .add [1] S128
        (select (andi (cmpf .oeq (broadcastTo S128x128 (extractStridedSlice S1x128 ![o.val, 0] pl hs) hb) C) k0_pay5)
          (broadcast S128x128 (Scalar.ofBits (F := Ideal) .f32 0x3F800000#32)) (broadcast S128x128 (Scalar.ofBits (F := Ideal) .f32 0x00000000#32)))
        0x00000000#32 h hφ hacc (ix1 l)
      = ((tieCount o pl C l : ℕ) : EReal) := by
  rw [plane_sum]
  unfold tieCount
  push_cast
  refine Finset.sum_congr rfl fun j _ => ?_
  refine (pick _).trans ?_
  have e : broadcastTo S128x128 (extractStridedSlice S1x128 ![o.val, 0] pl hs) hb (ix2 l j) = pl (ix2 o j) :=
    (ValueIdx.broadcastTo_1b_ab_apply _ hb l j).trans (ValueIdx.slice2_axis0_apply o.val pl hs 0 j o (by simp))
  show ((if Idealize.ShloMosaic.Ideal.cmp .oeq (broadcastTo S128x128 (extractStridedSlice S1x128 ![o.val, 0] pl hs) hb (ix2 l j)) (C (ix2 l j)) &&& k0_pay5 (ix2 l j) = 1#1 then 1 else 0 : ℕ) : EReal) = _
  rw [e, earlier]
  unfold Idealize.ShloMosaic.Ideal.cmp
  by_cases h1 : pl (ix2 o j) = C (ix2 l j) <;> by_cases h2 : j.val < l.val <;> simp [h1, h2]

/-! ## A row's marks -/

/-- A rank below 40 is marked one, any other zero. -/
theorem mark_of (v : FVec Ideal S128 .f32) (hw : 1 < 32) (hc : S128.ShapeCasts S1x128) (u : Fin 1) (l : Fin 128) (N : ℕ) (hv : v (ix1 l) = (N : EReal)) :
    shapeCast S1x128 (sitofp .f32 (extui 32 (cmpf .olt v (broadcast S128 (Scalar.ofBits (F := Ideal) .f32 0x42200000#32))) hw) : FVec Ideal S128 .f32) hc (ix2 u l)
      = (if N < 40 then 1 else 0 : EReal) := by
  refine (ValueIdx.shapeCast_a_1a_apply _ hc u l).trans ?_
  show (((((Idealize.ShloMosaic.Ideal.cmp .olt (v (ix1 l)) (Scalar.ofBits (F := Ideal) .f32 0x42200000#32)).setWidth 32).toInt : ℤ) : ℝ) : EReal) = _
  rw [hv, forty_word]
  have : ((N : EReal) < 40) ↔ N < 40 := by exact_mod_cast Iff.rfl
  unfold Idealize.ShloMosaic.Ideal.cmp
  by_cases h : N < 40
  · simp [this, h]
  · simp [this, h]

/-- Three counts added. -/
theorem three_counts (a b d : FVec Ideal S128 .f32) (l : Fin 128) {x y z : ℕ} (ha : a (ix1 l) = (x : EReal)) (hb : b (ix1 l) = (y : EReal)) (hd : d (ix1 l) = (z : EReal)) :
    addf (addf a b) d (ix1 l) = ((x + y + z : ℕ) : EReal) := by
  show (a (ix1 l) + b (ix1 l) + d (ix1 l) : EReal) = _
  rw [ha, hb, hd]; push_cast; rfl

/-- Two counts added. -/
theorem two_counts (a d : FVec Ideal S128 .f32) (l : Fin 128) {x z : ℕ} (ha : a (ix1 l) = (x : EReal)) (hd : d (ix1 l) = (z : EReal)) :
    addf a d (ix1 l) = ((x + z : ℕ) : EReal) := by
  show (a (ix1 l) + d (ix1 l) : EReal) = _
  rw [ha, hd]; push_cast; rfl

end Cert.KernelIdeal.Rank

end
-- ==== Proof.Marks.lean ====
/-
  All sixteen rows of marks: row `b` marks the overlaps whose rank, the count of the overlaps that beat them, is below 40.
-/
module

public import proofs.«01_k».proof.Proof.RowValue
public import proofs.«01_k».proof.Proof.Rows

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix1 ix2 ix3 eq_ix1 eq_ix2 eq_ix3 broadcast_apply cmpf_apply select_apply extui_apply sitofp_apply)

/-- The rank the kernel gives an overlap of row `b`: the greater overlaps from row `b` on, those at least as great in
the rows before it, and the equal ones before it in its row. -/
def rowRank (b : Fin 16) (pl : FVec Ideal S16x128 .f32) (C : FVec Ideal S128x128 .f32) (l : Fin 128) : ℕ :=
  stackCount .ogt b.val (16 - b.val) pl C l + stackCount .oge 0 b.val pl C l + tieCount b pl C l

/-- The mark a rank earns. -/
def markOf (N : ℕ) : EReal := if N < 40 then 1 else 0

/-- No overlaps lie in no rows. -/
theorem stackCount_none (p : CmpFPredicate) (o : ℕ) (pl : FVec Ideal S16x128 .f32) (C : FVec Ideal S128x128 .f32) (l : Fin 128) :
    stackCount p o 0 pl C l = 0 := by
  unfold stackCount
  refine Finset.sum_eq_zero fun r _ => Finset.sum_eq_zero fun j _ => if_neg ?_
  rintro ⟨⟨h1, h2⟩, -⟩
  omega

/-- A row `R` marks the overlaps of row `b`, read from the block `C`, whose rank is below 40. -/
def Marked (b : Fin 16) (pl : FVec Ideal S16x128 .f32) (C : FVec Ideal S128x128 .f32) (R : FVec Ideal S1x128 .f32) : Prop :=
  ∀ l : Fin 128, (R (ix2 (0 : Fin 1) l) : EReal) = markOf (rowRank b pl C l)

/-- A row that counts three parts marks by their sum. -/
theorem marked_three (b : Fin 16) (pl : FVec Ideal S16x128 .f32) (C : FVec Ideal S128x128 .f32) (G E : FVec Ideal S128 .f32)
    (hs : S16x128.Slices ![b.val, 0] S1x128) (hb : S1x128.Broadcasts S128x128) (h : S128x128.Reduces [1] S128) (hφ) (hacc)
    (hw : 1 < 32) (hc : S128.ShapeCasts S1x128)
    (hG : ∀ l : Fin 128, G (ix1 l) = ((stackCount .ogt b.val (16 - b.val) pl C l : ℕ) : EReal))
    (hE : ∀ l : Fin 128, E (ix1 l) = ((stackCount .oge 0 b.val pl C l : ℕ) : EReal)) :
    Marked b pl C (shapeCast S1x128 (sitofp .f32 (extui 32 (cmpf .olt (addf (addf G E)
      (multiReduction .add [1] S128
        (select (andi (cmpf .oeq (broadcastTo S128x128 (extractStridedSlice S1x128 ![b.val, 0] pl hs) hb) C) k0_pay5)
          (broadcast S128x128 (Scalar.ofBits (F := Ideal) .f32 0x3F800000#32)) (broadcast S128x128 (Scalar.ofBits (F := Ideal) .f32 0x00000000#32)))
        0x00000000#32 h hφ hacc)) (broadcast S128 (Scalar.ofBits (F := Ideal) .f32 0x42200000#32))) hw) : FVec Ideal S128 .f32) hc) :=
  fun l => mark_of _ hw hc 0 l _ (three_counts _ _ _ l (hG l) (hE l) (count_ties b pl C hs hb h hφ hacc l))

/-- The first row counts two parts: no rows come before it. -/
theorem marked_two (pl : FVec Ideal S16x128 .f32) (C : FVec Ideal S128x128 .f32) (G : FVec Ideal S128 .f32)
    (hs : S16x128.Slices ![0, 0] S1x128) (hb : S1x128.Broadcasts S128x128) (h : S128x128.Reduces [1] S128) (hφ) (hacc)
    (hw : 1 < 32) (hc : S128.ShapeCasts S1x128)
    (hG : ∀ l : Fin 128, G (ix1 l) = ((stackCount .ogt 0 16 pl C l : ℕ) : EReal)) :
    Marked 0 pl C (shapeCast S1x128 (sitofp .f32 (extui 32 (cmpf .olt (addf G
      (multiReduction .add [1] S128
        (select (andi (cmpf .oeq (broadcastTo S128x128 (extractStridedSlice S1x128 ![0, 0] pl hs) hb) C) k0_pay5)
          (broadcast S128x128 (Scalar.ofBits (F := Ideal) .f32 0x3F800000#32)) (broadcast S128x128 (Scalar.ofBits (F := Ideal) .f32 0x00000000#32)))
        0x00000000#32 h hφ hacc)) (broadcast S128 (Scalar.ofBits (F := Ideal) .f32 0x42200000#32))) hw) : FVec Ideal S128 .f32) hc) := by
  intro l
  refine (mark_of _ hw hc 0 l _ (two_counts _ _ l (hG l) (count_ties 0 pl C hs hb h hφ hacc l))).trans (congrArg markOf ?_)
  show _ = stackCount .ogt 0 16 pl C l + stackCount .oge 0 0 pl C l + tieCount 0 pl C l
  rw [stackCount_none, Nat.add_zero]

section
variable (pl : FVec Ideal S16x128 .f32) (C : FVec Ideal S128x128 .f32)

/-- Row 0 counts no rows before it. -/
theorem marked0 : Marked 0 pl C (k0_pay6 (F := Ideal) pl C) :=
  marked_two pl C _ slices_S16x128_o0_0_S1x128 _ _ (.inl rfl) rfl natLt_1_32 _ (count_all .ogt pl C _ _ _ _ _ (.inl rfl) rfl)

/-- Row 1 has one row before it. -/
theorem marked1 : Marked 1 pl C (k0_pay9 (F := Ideal) pl k0_pay5 C (k0_pay7 (F := Ideal) pl C) (k0_pay8 (F := Ideal) pl)) :=
  marked_three 1 pl C _ _ _ _ _ (.inl rfl) rfl natLt_1_32 _ (count_rows (o := 1) (n := 15) (by decide) .ogt pl C _ _ _ _ _ _ (.inl rfl) rfl)
    (count_row (o := 0) (by decide) .oge pl C slices_S16x128_o0_0_S1x128 _ _ _ _ (.inl rfl) rfl)

/-- Row 2 has 2 rows before it. -/
theorem marked2 : Marked 2 pl C (k0_pay14 (F := Ideal) pl k0_pay5 C (k0_pay10 (F := Ideal) pl C) (k0_pay11 (F := Ideal) pl C) (k0_pay12 (F := Ideal)) (k0_pay13 (F := Ideal))) :=
  marked_three 2 pl C _ _ _ _ _ (.inl rfl) rfl natLt_1_32 _ (count_rows (o := 2) (n := 14) (by decide) .ogt pl C _ _ _ _ _ _ (.inl rfl) rfl)
    (count_rows (o := 0) (n := 2) (by decide) .oge pl C _ _ _ _ _ _ (.inl rfl) rfl)

/-- Row 3 has 3 rows before it. -/
theorem marked3 : Marked 3 pl C (k0_pay17 (F := Ideal) (k0_pay15 (F := Ideal) pl C) (k0_pay16 (F := Ideal) pl k0_pay5 C)) :=
  marked_three 3 pl C _ _ _ _ _ (.inl rfl) rfl natLt_1_32 _ (count_rows (o := 3) (n := 13) (by decide) .ogt pl C _ _ _ _ _ _ (.inl rfl) rfl)
    (count_rows (o := 0) (n := 3) (by decide) .oge pl C _ _ _ _ _ _ (.inl rfl) rfl)

/-- Row 4 has 4 rows before it. -/
theorem marked4 : Marked 4 pl C (k0_pay19 (F := Ideal) (k0_pay18 (F := Ideal) pl k0_pay5 C)) :=
  marked_three 4 pl C _ _ _ _ _ (.inl rfl) rfl natLt_1_32 _ (count_rows (o := 4) (n := 12) (by decide) .ogt pl C _ _ _ _ _ _ (.inl rfl) rfl)
    (count_rows (o := 0) (n := 4) (by decide) .oge pl C _ _ _ _ _ _ (.inl rfl) rfl)

/-- Row 5 has 5 rows before it. -/
theorem marked5 : Marked 5 pl C (k0_pay20 (F := Ideal) pl k0_pay5 C) :=
  marked_three 5 pl C _ _ _ _ _ (.inl rfl) rfl natLt_1_32 _ (count_rows (o := 5) (n := 11) (by decide) .ogt pl C _ _ _ _ _ _ (.inl rfl) rfl)
    (count_rows (o := 0) (n := 5) (by decide) .oge pl C _ _ _ _ _ _ (.inl rfl) rfl)

/-- Row 6 has 6 rows before it. -/
theorem marked6 : Marked 6 pl C (k0_pay21 (F := Ideal) pl k0_pay5 C) :=
  marked_three 6 pl C _ _ _ _ _ (.inl rfl) rfl natLt_1_32 _ (count_rows (o := 6) (n := 10) (by decide) .ogt pl C _ _ _ _ _ _ (.inl rfl) rfl)
    (count_rows (o := 0) (n := 6) (by decide) .oge pl C _ _ _ _ _ _ (.inl rfl) rfl)

/-- Row 7 has 7 rows before it. -/
theorem marked7 : Marked 7 pl C (k0_pay24 (F := Ideal) pl k0_pay5 C (k0_pay22 (F := Ideal) pl) (k0_pay23 (F := Ideal) C)) :=
  marked_three 7 pl C _ _ _ _ _ (.inl rfl) rfl natLt_1_32 _ (count_rows (o := 7) (n := 9) (by decide) .ogt pl C _ _ _ _ _ _ (.inl rfl) rfl)
    (count_rows (o := 0) (n := 7) (by decide) .oge pl C _ _ _ _ _ _ (.inl rfl) rfl)

/-- Row 8 has 8 rows before it. -/
theorem marked8 : Marked 8 pl C (k0_pay26 (F := Ideal) pl k0_pay5 C (k0_pay25 (F := Ideal) pl C)) :=
  marked_three 8 pl C _ _ _ _ _ (.inl rfl) rfl natLt_1_32 _ (count_rows (o := 8) (n := 8) (by decide) .ogt pl C _ _ _ _ _ _ (.inl rfl) rfl)
    (count_rows (o := 0) (n := 8) (by decide) .oge pl C _ _ _ _ _ _ (.inl rfl) rfl)

/-- Row 9 has 9 rows before it. -/
theorem marked9 : Marked 9 pl C (k0_pay29 (F := Ideal) pl k0_pay5 C (k0_pay27 (F := Ideal) pl C) (k0_pay28 (F := Ideal) pl C)) :=
  marked_three 9 pl C _ _ _ _ _ (.inl rfl) rfl natLt_1_32 _ (count_rows (o := 9) (n := 7) (by decide) .ogt pl C _ _ _ _ _ _ (.inl rfl) rfl)
    (count_rows (o := 0) (n := 9) (by decide) .oge pl C _ _ _ _ _ _ (.inl rfl) rfl)

/-- Row 10 has 10 rows before it. -/
theorem marked10 : Marked 10 pl C (k0_pay31 (F := Ideal) pl k0_pay5 C (k0_pay30 (F := Ideal) pl C)) :=
  marked_three 10 pl C _ _ _ _ _ (.inl rfl) rfl natLt_1_32 _ (count_rows (o := 10) (n := 6) (by decide) .ogt pl C _ _ _ _ _ _ (.inl rfl) rfl)
    (count_rows (o := 0) (n := 10) (by decide) .oge pl C _ _ _ _ _ _ (.inl rfl) rfl)

/-- Row 11 has 11 rows before it. -/
theorem marked11 : Marked 11 pl C (k0_pay36 (F := Ideal) (k0_pay32 (F := Ideal) pl C) (k0_pay33 (F := Ideal) pl k0_pay5 C) (k0_pay34 (F := Ideal)) (k0_pay35 (F := Ideal))) :=
  marked_three 11 pl C _ _ _ _ _ (.inl rfl) rfl natLt_1_32 _ (count_rows (o := 11) (n := 5) (by decide) .ogt pl C _ _ _ _ _ _ (.inl rfl) rfl)
    (count_rows (o := 0) (n := 11) (by decide) .oge pl C _ _ _ _ _ _ (.inl rfl) rfl)

/-- Row 12 has 12 rows before it. -/
theorem marked12 : Marked 12 pl C (k0_pay38 (F := Ideal) (k0_pay37 (F := Ideal) pl k0_pay5 C)) :=
  marked_three 12 pl C _ _ _ _ _ (.inl rfl) rfl natLt_1_32 _ (count_rows (o := 12) (n := 4) (by decide) .ogt pl C _ _ _ _ _ _ (.inl rfl) rfl)
    (count_rows (o := 0) (n := 12) (by decide) .oge pl C _ _ _ _ _ _ (.inl rfl) rfl)

/-- Row 13 has 13 rows before it. -/
theorem marked13 : Marked 13 pl C (k0_pay39 (F := Ideal) pl k0_pay5 C) :=
  marked_three 13 pl C _ _ _ _ _ (.inl rfl) rfl natLt_1_32 _ (count_rows (o := 13) (n := 3) (by decide) .ogt pl C _ _ _ _ _ _ (.inl rfl) rfl)
    (count_rows (o := 0) (n := 13) (by decide) .oge pl C _ _ _ _ _ _ (.inl rfl) rfl)

/-- Row 14 has 14 rows before it. -/
theorem marked14 : Marked 14 pl C (k0_pay40 (F := Ideal) pl k0_pay5 C) :=
  marked_three 14 pl C _ _ _ _ _ (.inl rfl) rfl natLt_1_32 _ (count_rows (o := 14) (n := 2) (by decide) .ogt pl C _ _ _ _ _ _ (.inl rfl) rfl)
    (count_rows (o := 0) (n := 14) (by decide) .oge pl C _ _ _ _ _ _ (.inl rfl) rfl)

/-- Row 15 is the last. -/
theorem marked15 : Marked 15 pl C (k0_pay4 (F := Ideal) pl k0_pay5 C (k0_pay41 (F := Ideal) pl C) (Scalar.ofBits (F := Ideal) .f32 0x3F800000#32) (Scalar.ofBits (F := Ideal) .f32 0x00000000#32)) :=
  marked_three 15 pl C _ _ _ _ _ (.inl rfl) rfl natLt_1_32 _ (count_row (o := 15) (by decide) .ogt pl C _ _ _ _ _ (.inl rfl) rfl)
    (count_rows (o := 0) (n := 15) (by decide) .oge pl C _ _ _ _ _ _ (.inl rfl) rfl)

end

/-- Block `b` of the column scratch starts at row `128 * b`. -/
theorem colBlock_inb (b : Fin 16) : ∀ a, (![128 * b.val, 0] : Fin 2 → ℕ) a + S128x128.size a ≤ S2048x128.size a := by
  intro a
  have := b.isLt
  match a with
  | ⟨0, _⟩ => show 128 * b.val + 128 ≤ 2048; omega
  | ⟨1, _⟩ => show 0 + 128 ≤ 128; omega

/-- Every row of marks marks the overlaps whose rank is below 40. -/
theorem markRows_marked (pl : FVec Ideal S16x128 .f32) (cols : FVec Ideal S2048x128 .f32) (b : Fin 16) :
    Marked b pl (colBlock (F := Ideal) cols (128 * b.val) (colBlock_inb b)) (markRows (F := Ideal) pl cols b) := by
  match b with
  | ⟨0, _⟩ => exact marked0 pl _
  | ⟨1, _⟩ => exact marked1 pl _
  | ⟨2, _⟩ => exact marked2 pl _
  | ⟨3, _⟩ => exact marked3 pl _
  | ⟨4, _⟩ => exact marked4 pl _
  | ⟨5, _⟩ => exact marked5 pl _
  | ⟨6, _⟩ => exact marked6 pl _
  | ⟨7, _⟩ => exact marked7 pl _
  | ⟨8, _⟩ => exact marked8 pl _
  | ⟨9, _⟩ => exact marked9 pl _
  | ⟨10, _⟩ => exact marked10 pl _
  | ⟨11, _⟩ => exact marked11 pl _
  | ⟨12, _⟩ => exact marked12 pl _
  | ⟨13, _⟩ => exact marked13 pl _
  | ⟨14, _⟩ => exact marked14 pl _
  | ⟨15, _⟩ => exact marked15 pl _
  | ⟨n + 16, h⟩ => exact absurd h (by omega)

end Cert.KernelIdeal.Rank

end
-- ==== Proof.Order.lean ====
/-
  The rank of an overlap among all 2048, and the kernel's row ranks read as it: an overlap's rank is the number of
  overlaps that are greater, or equal and earlier.
-/
module

public import proofs.«01_k».proof.Proof.Marks

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix1 ix2 ix3 eq_ix1 eq_ix2 eq_ix3 broadcast_apply cmpf_apply select_apply extui_apply sitofp_apply)

/-! ## The rank of an entry -/

/-- The number of entries of `V` that are greater than the entry at `i`, or equal to it and earlier. -/
def rankOf {n : ℕ} (V : Fin n → EReal) (i : Fin n) : ℕ :=
  ∑ e : Fin n, if V i < V e ∨ (V e = V i ∧ e.val < i.val) then 1 else 0

/-- A count over 2048 entries is the count over sixteen rows of 128. -/
theorem sum_blocks (f : Fin 2048 → ℕ) :
    ∑ e : Fin 2048, f e = ∑ r : Fin 16, ∑ j : Fin 128, f ⟨128 * r.val + j.val, by omega⟩ := by
  rw [← Equiv.sum_comp (finProdFinEquiv : Fin 16 × Fin 128 ≃ Fin 2048) f, Fintype.sum_prod_type]
  refine Finset.sum_congr rfl fun r _ => Finset.sum_congr rfl fun j _ => congrArg f (Fin.ext ?_)
  show j.val + 128 * r.val = 128 * r.val + j.val
  omega

/-! ## The kernel's parts, added -/

/-- A tie count is the count over all rows that looks at its own row only. -/
theorem tieCount_rows (b : Fin 16) (pl : FVec Ideal S16x128 .f32) (C : FVec Ideal S128x128 .f32) (l : Fin 128) :
    tieCount b pl C l = ∑ r : Fin 16, ∑ j : Fin 128, if r = b ∧ pl (ix2 r j) = C (ix2 l j) ∧ j.val < l.val then 1 else 0 := by
  rw [Finset.sum_eq_single b]
  · unfold tieCount
    simp
  · intro r _ hr
    exact Finset.sum_eq_zero fun j _ => if_neg fun h => hr h.1
  · intro h; exact absurd (Finset.mem_univ _) h

/-- What one overlap `x`, at row `r` and lane `j`, adds to the rank of the overlap `y` at row `b` and lane `l`. -/
theorem parts_eq (b r : Fin 16) (l j : Fin 128) (x y : EReal) :
    ((if (b.val ≤ r.val ∧ r.val < b.val + (16 - b.val)) ∧ Idealize.ShloMosaic.Ideal.cmp .ogt x y = 1#1 then 1 else 0)
      + (if (0 ≤ r.val ∧ r.val < 0 + b.val) ∧ Idealize.ShloMosaic.Ideal.cmp .oge x y = 1#1 then 1 else 0)
      + (if r = b ∧ x = y ∧ j.val < l.val then 1 else 0) : ℕ)
      = if y < x ∨ (x = y ∧ 128 * r.val + j.val < 128 * b.val + l.val) then 1 else 0 := by
  have hg : Idealize.ShloMosaic.Ideal.cmp .ogt x y = 1#1 ↔ y < x := by
    unfold Idealize.ShloMosaic.Ideal.cmp; by_cases h : y < x <;> simp [h]
  have he : Idealize.ShloMosaic.Ideal.cmp .oge x y = 1#1 ↔ y ≤ x := by
    unfold Idealize.ShloMosaic.Ideal.cmp; by_cases h : y ≤ x <;> simp [h]
  simp only [hg, he]
  have hr := r.isLt
  have hb := b.isLt
  have hl := l.isLt
  have hj := j.isLt
  rcases lt_trichotomy y x with h | h | h
  · rw [if_pos (Or.inl h : y < x ∨ _), if_neg (fun k : r = b ∧ x = y ∧ _ => absurd k.2.1 h.ne')]
    by_cases hrb : r.val < b.val
    · rw [if_neg (by omega), if_pos ⟨by omega, h.le⟩]
    · rw [if_pos ⟨by omega, h⟩, if_neg (by omega)]
  · subst h
    rw [if_neg (fun k : _ ∧ y < y => lt_irrefl _ k.2)]
    by_cases hrb : r.val < b.val
    · rw [if_pos ⟨by omega, le_refl _⟩, if_neg (fun k : r = b ∧ _ => absurd (congrArg Fin.val k.1) (by omega)), if_pos (Or.inr ⟨rfl, by omega⟩)]
    · rw [if_neg (fun k => absurd k.1.2 (by omega))]
      by_cases hrb' : r = b
      · subst hrb'
        by_cases hjl : j.val < l.val
        · rw [if_pos ⟨rfl, rfl, hjl⟩, if_pos (Or.inr ⟨rfl, by omega⟩)]
        · rw [if_neg (fun k => hjl k.2.2), if_neg (fun k => k.elim (fun h => lt_irrefl _ h) (fun h => absurd h.2 (by omega)))]
      · have hne : r.val ≠ b.val := fun h => hrb' (Fin.ext h)
        rw [if_neg (fun k => hrb' k.1), if_neg (fun k => k.elim (fun h => lt_irrefl _ h) (fun h => absurd h.2 (by omega)))]
  · rw [if_neg (fun k : _ ∧ y < x => lt_asymm h k.2), if_neg (fun k : _ ∧ y ≤ x => absurd k.2 (not_le.mpr h)),
      if_neg (fun k : r = b ∧ x = y ∧ _ => absurd k.2.1 h.ne), if_neg (fun k => k.elim (fun h' => lt_asymm h h') (fun h' => absurd h'.1 h.ne))]

/-- When `pl` and the block `C` hold the entries of `V`, the kernel's rank is the entry's rank. -/
theorem rowRank_eq (V : Fin 2048 → EReal) (pl : FVec Ideal S16x128 .f32) (C : FVec Ideal S128x128 .f32) (b : Fin 16) (l : Fin 128)
    (hp : ∀ (r : Fin 16) (j : Fin 128), (pl (ix2 r j) : EReal) = V ⟨128 * r.val + j.val, by omega⟩)
    (hC : ∀ j : Fin 128, (C (ix2 l j) : EReal) = V ⟨128 * b.val + l.val, by omega⟩) :
    rowRank b pl C l = rankOf V ⟨128 * b.val + l.val, by omega⟩ := by
  unfold rowRank rankOf
  rw [tieCount_rows, sum_blocks]
  unfold stackCount
  rw [← Finset.sum_add_distrib, ← Finset.sum_add_distrib]
  refine Finset.sum_congr rfl fun r _ => ?_
  rw [← Finset.sum_add_distrib, ← Finset.sum_add_distrib]
  refine Finset.sum_congr rfl fun j _ => ?_
  rw [hp r j, hC j]
  exact parts_eq b r l j _ _

end Cert.KernelIdeal.Rank

end
-- ==== Proof.Overlap.lean ====
/-
  The kernel's result over the extended reals: entry `i` is one when the rank of overlap `i` is below 40, zero otherwise,
  and overlap `i` is the inner product of connection row `i` with the input.
-/
module

public import proofs.«01_k».proof.Proof.Order
public import proofs.«01_k».proof.Proof.Result
public import Idealize.ShloMosaic.Lib.Pipeline.ValueKit.Tiles

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix1 ix2 ix3 eq_ix1 eq_ix2 eq_ix3 broadcast_apply cmpf_apply select_apply extui_apply sitofp_apply)

/-- Overlap `i`: the inner product of row `i` of the connections with the input. -/
def overlap (x : FVec Ideal S16384 .f32) (w : FVec Ideal S2048x16384 .f32) (i : Fin 2048) : EReal :=
  ∑ k : Fin 16384, (w (ix2 i k) * x (ix1 k) : EReal)

/-- The marks of the 40 greatest overlaps, the earlier of two equal ones first. -/
def winners (x : FVec Ideal S16384 .f32) (w : FVec Ideal S2048x16384 .f32) : FVec Ideal S2048 .f32 :=
  fun i => markOf (rankOf (overlap x w) (i 0))

/-- A block's overlap is the sum of its row's products with the input. -/
theorem pay1_apply (x1 : FVec Ideal S128x16384 .f32) (x0 : FVec Ideal S1x16384 .f32) (l : Fin 128) :
    (k0_pay1 (F := Ideal) x1 x0 (ix1 l) : EReal) = ∑ k : Fin 16384, (x1 (ix2 l k) * x0 (ix2 (0 : Fin 1) k) : EReal) := by
  unfold k0_pay1
  simp only [shapeCast_self]
  refine (plane_sum _ _ _ _ _ l).trans (Finset.sum_congr rfl fun k _ => ?_)
  show (x1 (ix2 l k) * broadcastTo S128x16384 x0 broadcasts_S1x16384_S128x16384 (ix2 l k) : EReal) = _
  rw [ValueIdx.broadcastTo_1b_ab_apply]

/-- The overlaps of block `b` are the overlaps `128 * b … 128 * b + 127`. -/
theorem ov_eq (m : (ℓ : Loc nD τ sig) → Buf (Elt Ideal) ℓ) (c : Dev nD) (b : Fin 16) (l : Fin 128) :
    (ov (blk0 m c) (blk1 m c) b l : EReal)
      = overlap (m ((c : Thread nD τ).loc main_arg0)) (m ((c : Thread nD τ).loc main_arg1)) ⟨128 * b.val + l.val, by omega⟩ := by
  refine (pay1_apply (blk1 m c b) (blk0 m c b) l).trans ?_
  unfold overlap
  refine Finset.sum_congr rfl fun k _ => ?_
  rw [blk0_apply, blk1_apply]

/-- The column scratch's block `b` holds, in every lane of row `l`, overlap `l` of block `b`. -/
theorem colBlock_apply {F : FTy → Type} [FloatOps F] (X0 : Fin 16 → Vec F S1x16384 .f32) (X1 : Fin 16 → Vec F S128x16384 .f32) (b : Fin 16) (l j : Fin 128) :
    colBlock (colsOf X0 X1) (128 * b.val) (colBlock_inb b) (ix2 l j) = ov X0 X1 b l := by
  have hb := b.isLt
  have hl := l.isLt
  have h2 : 128 * b.val + l.val < 2048 := by omega
  refine (View.ld_unit_apply_of _ _ _ _ (ix2 l j) (ix2 (⟨128 * b.val + l.val, h2⟩ : Fin 2048) j) ?_).trans ?_
  · intro a
    match a with
    | ⟨0, _⟩ => rfl
    | ⟨1, _⟩ => exact (Nat.zero_add _).symm
  show ov X0 X1 ⟨(128 * b.val + l.val) / 128, _⟩ ⟨(128 * b.val + l.val) % 128, _⟩ = _
  congr 1
  · exact Fin.ext (by show (128 * b.val + l.val) / 128 = b.val; omega)
  · exact Fin.ext (by show (128 * b.val + l.val) % 128 = l.val; omega)

/-- The kernel's result is the marks of the 40 greatest overlaps. -/
theorem result_eq (m : (ℓ : Loc nD τ sig) → Buf (Elt Ideal) ℓ) (c : Dev nD) :
    shapeCast S2048 (outBlock m c) shapeCasts_S16x128_S2048
      = winners (m ((c : Thread nD τ).loc main_arg0)) (m ((c : Thread nD τ).loc main_arg1)) := by
  funext i
  have hi : (i 0).val < 2048 := (i 0).isLt
  obtain ⟨b, l, hbl⟩ : ∃ (b : Fin 16) (l : Fin 128), (i 0).val = 128 * b.val + l.val :=
    ⟨⟨(i 0).val / 128, by omega⟩, ⟨(i 0).val % 128, Nat.mod_lt _ (by decide)⟩, by show _ = 128 * ((i 0).val / 128) + (i 0).val % 128; omega⟩
  refine (shapeCast_apply _ _ i (ix2 b l) ?_).trans ?_
  · rw [Shape.rowMajor_val_two, Shape.rowMajor_val_one]
    show b.val * 128 + l.val = (i 0).val
    omega
  refine (markRows_marked _ _ b l).trans ?_
  show _ = markOf (rankOf _ (i 0))
  rw [show i 0 = (⟨128 * b.val + l.val, by omega⟩ : Fin 2048) from Fin.ext hbl]
  refine congrArg markOf (rowRank_eq _ _ _ b l (fun r j => ov_eq m c r j) (fun j => ?_))
  exact (colBlock_apply _ _ b l j).trans (ov_eq m c b l)

end Cert.KernelIdeal.Rank

end
-- ==== Proof.Sort.lean ====
/-
  The stable descending sort of extended reals is the sort by value and then position; the position it gives an entry is
  the entry's rank.
-/
module

public import proofs.«01_k».proof.Proof.Order
public import Idealize.ShloMosaic.Lib.SortPrefix

@[expose] public section

set_option maxRecDepth 16384

noncomputable section

namespace Cert.KernelIdeal.Rank

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx (ix1 ix2 ix3 eq_ix1 eq_ix2 eq_ix3 broadcast_apply cmpf_apply select_apply extui_apply sitofp_apply)

variable {n : ℕ} (V : Fin n → EReal)

/-- Entry `k` comes before entry `k'`: it is greater, or equal and earlier. -/
def ahead (k k' : Fin n) : Bool := decide (V k' < V k) || (decide (V k = V k') && decide (k < k'))

/-- The order decides between any two entries. -/
theorem ahead_total : StrictTotalBefore (ahead V) :=
  StrictTotalBefore.of_key_then_position (fun a b : EReal => decide (b < a)) V (fun a => by simp)
    (fun a b c hab hbc => decide_eq_true ((of_decide_eq_true hbc).trans (of_decide_eq_true hab)))
    (fun a b => by
      rcases lt_trichotomy a b with h | h | h
      · exact Or.inr (Or.inr (decide_eq_true h))
      · exact Or.inr (Or.inl h)
      · exact Or.inl (decide_eq_true h))

/-- On a list of increasing positions, a stable sort by the values alone is the sort by value and then position. -/
theorem stable_is_total (l : List (Fin n)) (hl : l.Pairwise (· < ·)) :
    stableSort (fun k k' => decide (V k' < V k)) l = stableSort (ahead V) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold ahead
    rw [decide_eq_false (fun h : b < a => lt_asymm hab h), Bool.and_false, Bool.or_false]

/-- The permutation of a stable descending sort is the permutation of the sort by value and then position. -/
theorem sorted_is_total : sortedFrom (fun k k' : Fin n => decide (V k' < V k)) = sortedFrom (ahead V) := by
  funext k
  unfold sortedFrom
  have h : sortPositions n (fun k k' : Fin n => decide (V k' < V k)) = sortPositions n (ahead V) :=
    stable_is_total V _ (List.pairwise_lt_finRange n)
  rw [List.get_of_eq h]
  rfl

/-- Sorted positions are in order. -/
theorem sorted_ahead (i j : Fin n) : ahead V (sortedFrom (ahead V) i) (sortedFrom (ahead V) j) = true ↔ i < j := by
  have hT := ahead_total V
  have hno : ∀ i j : Fin n, i < j → ahead V (sortedFrom (ahead V) j) (sortedFrom (ahead V) i) = false :=
    sortedFrom_noInversion (ahead V) (ahead V) (fun a b h => hT.asymm a b h) (fun _ _ h => h) hT.negTrans
  constructor
  · intro h
    rcases lt_trichotomy i j with hij | hij | hij
    · exact hij
    · subst hij; rw [hT.irrefl] at h; exact absurd h (by decide)
    · rw [hno j i hij] at h; exact absurd h (by decide)
  · intro hij
    rcases hT.total _ _ (fun h => hij.ne (sortedFrom_injective (ahead V) h)) with h | h
    · exact h
    · rw [hno i j hij] at h; exact absurd h (by decide)

/-- The entry sorted to position `j` has rank `j`. -/
theorem rank_sorted (j : Fin n) : rankOf V (sortedFrom (ahead V) j) = j.val := by
  have e : ∀ i : Fin n, rankOf V i = ∑ e : Fin n, if ahead V e i = true then 1 else 0 := by
    intro i
    unfold rankOf ahead
    refine Finset.sum_congr rfl fun e _ => if_congr ?_ rfl rfl
    rw [Bool.or_eq_true, Bool.and_eq_true, decide_eq_true_iff, decide_eq_true_iff, decide_eq_true_iff, Fin.lt_def]
  rw [e, ← Equiv.sum_comp (Equiv.ofBijective (sortedFrom (ahead V)) ⟨sortedFrom_injective _, sortedFrom_surjective _⟩)]
  have : ∀ i : Fin n, (if ahead V (sortedFrom (ahead V) i) (sortedFrom (ahead V) j) = true then 1 else 0 : ℕ) = if i < j then 1 else 0 :=
    fun i => if_congr (sorted_ahead V i j) rfl rfl
  refine (Finset.sum_congr rfl fun i _ => this i).trans ?_
  rw [← Finset.card_filter]
  have hI : Finset.univ.filter (fun i : Fin n => i < j) = Finset.Iio j := by ext; simp
  rw [hI, Fin.card_Iio]

/-- An entry is among the first `k` sorted exactly when its rank is below `k`. -/
theorem among_first (k : ℕ) (i : Fin n) : rankOf V i < k ↔ ∃ j : Fin n, j.val < k ∧ sortedFrom (ahead V) j = i := by
  constructor
  · intro h
    obtain ⟨j, rfl⟩ := sortedFrom_surjective (ahead V) i
    rw [rank_sorted] at h
    exact ⟨j, h, rfl⟩
  · rintro ⟨j, hj, rfl⟩
    rw [rank_sorted]; exact hj

end Cert.KernelIdeal.Rank

end
-- ==== Proof.Reference.lean ====
/-
  The reference over the extended reals: its sorted positions are those of the sort by value and then position, and
  its scatter writes one at the first 40 of them, so its result is the marks of the 40 greatest overlaps.
-/
module

public import proofs.«01_k».proof.Proof.Sort
public import proofs.«01_k».proof.Proof.Overlap
public import proofs.«01_k».proof.Proof.Gen.ReferenceIdeal.Read
public import Idealize.ShloMosaic.Lib.Routing.OpsSet
public import Idealize.ShloMosaic.Lib.Routing.OpsPair

@[expose] public section

set_option maxRecDepth 16384

noncomputable section

namespace Cert.ReferenceIdeal.Winners

open Cert.ReferenceIdeal Cert.ReferenceIdeal.Gen Cert.ReferenceIdeal.Read
open Cert.KernelIdeal.Rank (overlap winners rankOf markOf ahead among_first sorted_is_total one_word zero_word)
open Idealize.ShloMosaic Idealize.ShloMosaic.TcCoe
open scoped BigOperators
open Idealize.ShloMosaic.ValueIdx (ix1 ix2 eq_ix1 eq_ix2)

variable (x : FVec Ideal S16384 .f32) (w : FVec Ideal S2048x16384 .f32)

/-- The reference's product row is the overlap. -/
theorem product_apply (i : Fin 2048) : (val_main_v0 (F := Ideal) x w (ix1 i) : EReal) = overlap x w i := by
  refine (val_main_v0_apply x w (ix1 i)).trans ?_
  unfold overlap
  refine Finset.sum_congr rfl fun k _ => ?_
  have e1 : lidx_main_v0 (ix1 i) k = ix2 i k := eq_ix2 _
  have e2 : ridx_main_v0 (ix1 i) k = ix1 k := eq_ix1 _
  rw [e1, e2]

/-- The position of the overlap sorted to place `j`. -/
def place (j : Fin 2048) : Fin 2048 := sortedFrom (ahead (overlap x w)) j

/-- The position a sort along the only axis reads for the result's entry `i`. -/
theorem sorted_along {α : Type} (gt : α → α → BitVec 1) (X : S2048.Idx → α) (i : S2048.Idx) (p : Fin 2048) (hp : i 0 = p) :
    (i.along 0 (sortedFrom (fun k k' => gt (X (i.along 0 k)) (X (i.along 0 k')) == 1#1) (i 0)) 0)
      = sortedFrom (fun k k' : Fin 2048 => gt (X (ix1 k)) (X (ix1 k')) == 1#1) p := by
  subst hp
  have ha : ∀ k : Fin (S2048.size 0), i.along 0 k = ix1 k := fun k => (Shape.Idx.along_rank1 i k).trans (eq_ix1 _)
  have hr : (fun k k' : Fin (S2048.size 0) => gt (X (i.along 0 k)) (X (i.along 0 k')) == 1#1) = fun k k' => gt (X (ix1 k)) (X (ix1 k')) == 1#1 :=
    funext fun k => funext fun k' => by rw [ha k, ha k']; rfl
  rw [hr]
  exact congrFun (ha _) 0

/-- The index a top-40 reports at place `j` is the position sorted there. -/
theorem topK_index {α : Type} (gt : α → α → BitVec 1) (X : S2048.Idx → α) (h : S2048.Slices (fun _ => 0) S40) (j : Fin 40) :
    (Host.topK S40 0 gt X h).2 (ix1 j)
      = BitVec.ofNat 32 (sortedFrom (fun k k' : Fin 2048 => gt (X (ix1 k)) (X (ix1 k')) == 1#1) ⟨j.val, by omega⟩).val := by
  unfold Host.topK Host.sort2
  simp only [dif_pos (show 0 < S2048.rank by decide)]
  exact congrArg (fun p : Fin 2048 => BitVec.ofNat 32 p.val)
    (sorted_along gt X (fun a => ⟨0 + (ix1 j (a.cast h.1)).val, _⟩) ⟨j.val, by omega⟩ (Fin.ext (Nat.zero_add _)))

/-- The comparison's bit says whether the first number is the greater. -/
theorem greater_bit (a b : EReal) :
    (FloatOps.cmpfTotal (F := Ideal) (φ := .f32) .gt a b == 1#1) = decide (b < a) := by
  show (BitVec.ofBool (decide (b < a)) == 1#1) = _
  by_cases h : b < a
  · rw [decide_eq_true h]; rfl
  · rw [decide_eq_false h]; rfl

/-- The reference's index `j` is the position sorted to place `j`. -/
theorem indices_apply (j : Fin 40) :
    val_main_indices (F := Ideal) x w (ix1 j) = BitVec.ofNat 32 (place x w ⟨j.val, by omega⟩).val := by
  unfold val_main_indices
  rw [topK_index]
  unfold place
  rw [← sorted_is_total]
  have e : (fun k k' : Fin 2048 => FloatOps.cmpfTotal (F := Ideal) (φ := .f32) .gt (val_main_v0 (F := Ideal) x w (ix1 k)) (val_main_v0 (F := Ideal) x w (ix1 k')) == 1#1)
      = fun k k' => decide (overlap x w k' < overlap x w k) := by
    funext k k'
    exact (greater_bit _ _).trans (by rw [product_apply, product_apply])
  refine congrArg (fun R : Fin 2048 → Fin 2048 → Bool => BitVec.ofNat 32 (sortedFrom R ⟨j.val, _⟩).val) e

/-- The word the scatter reads for update `j`. -/
theorem target_apply (j : Fin 40) :
    (val_main_v7 (F := Ideal) x w (ix2 j (0 : Fin 1))).toInt = ((place x w ⟨j.val, by omega⟩).val : ℤ) := by
  rw [val_main_v7_apply]
  have e : idx_main_v7 (ix2 j (0 : Fin 1)) = ix1 j := eq_ix1 _
  rw [e, val_main_v6_apply, val_main_v3_apply, val_main_v2_apply, val_main_c_apply, indices_apply]
  have hp := (place x w ⟨j.val, by omega⟩).isLt
  have hn : (BitVec.ofNat 32 (place x w ⟨j.val, by omega⟩).val).toNat = (place x w ⟨j.val, by omega⟩).val := by
    rw [BitVec.toNat_ofNat, Nat.mod_eq_of_lt (by omega)]
  rw [Routing.wrap_of_lt _ _ (by rw [hn]; omega), BitVec.toInt_eq_toNat_of_lt (by rw [hn]; omega), hn]

/-- Update `j` of the scatter writes the entry its word names. -/
theorem lands (idx : IVec S40x1 32) (j : Fin 40) (e : Fin 2048) :
    scatter_S2048_S40x1_S40_n_0_0_1.resultIdx? (ix1 j) idx = some (ix1 e) ↔ (idx (ix2 j (0 : Fin 1))).toInt = (e.val : ℤ) := by
  rw [Routing.resultIdx?_ix1]
  have hwin : scatter_S2048_S40x1_S40_n_0_0_1.window (ix1 j) 0 = 0 := by
    unfold ScatterDims.window
    exact dif_neg (by decide)
  have hstart : scatter_S2048_S40x1_S40_n_0_0_1.start (ix1 j) idx 0 = (idx (ix2 j (0 : Fin 1))).toInt := by
    unfold ScatterDims.start
    rw [dif_pos (show (0 : Fin 1) ∈ scatter_S2048_S40x1_S40_n_0_0_1.scatterDimsToOperandDims by decide)]
    refine congrArg (fun y => (idx y).toInt) ?_
    funext a
    match a with
    | ⟨0, _⟩ => rfl
    | ⟨1, _⟩ => rfl
  rw [hwin, hstart]
  simp

/-- The reference's result is the marks of the 40 greatest overlaps. -/
theorem reference_eq : val_main_v9 (F := Ideal) x w = winners x w := by
  funext i
  obtain ⟨e, rfl⟩ : ∃ e : Fin 2048, i = ix1 e := ⟨i 0, eq_ix1 i⟩
  unfold val_main_v9
  show _ = markOf (rankOf (overlap x w) e)
  unfold markOf
  have hone : ∀ k : S40.Idx, (val_main_v8 (F := Ideal) k : EReal) = 1 := fun k => by
    rw [val_main_v8_apply, val_main_cst_1_apply]; exact one_word
  have hzero : (val_main_v1 (F := Ideal) (ix1 e) : EReal) = 0 := by
    rw [val_main_v1_apply, val_main_cst_apply]; exact zero_word
  by_cases h : rankOf (overlap x w) e < 40
  · rw [if_pos h]
    obtain ⟨j, hj, hje⟩ := (among_first (overlap x w) 40 e).mp h
    refine Routing.scatter_set_hit _ _ _ _ (ix1 e) (1 : EReal) (fun k _ => hone k) (ix1 (⟨j.val, hj⟩ : Fin 40)) ?_
    rw [lands, target_apply]
    exact congrArg (fun p : Fin 2048 => (p.val : ℤ)) hje
  · rw [if_neg h]
    refine (Routing.scatter_set_miss _ _ _ _ (ix1 e) (fun k hk => h ?_)).trans hzero
    obtain ⟨j, rfl⟩ : ∃ j : Fin 40, k = ix1 j := ⟨k 0, eq_ix1 k⟩
    rw [lands, target_apply] at hk
    exact (among_first (overlap x w) 40 e).mpr ⟨⟨j.val, by omega⟩, j.isLt, Fin.ext (Int.ofNat_inj.mp hk)⟩

end Cert.ReferenceIdeal.Winners

end
-- ==== Proof.lean ====
/-
  The proof of `Cert.Claim`: the kernel and its reference terminate, leave their arguments and counters as they must, and
  over the extended reals end with the same marks.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Region
public import proofs.«01_k».proof.Proof.Result
public import proofs.«01_k».proof.Proof.SameText
public import proofs.«01_k».proof.Proof.Overlap
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel runs, leaves its arguments as they were, and ends with every counter at zero. -/
theorem kernel_quiet : Cert.quiescent_Kernel := fun m ρ _ =>
  SameText.transfer (Cert.KernelIdeal.Rank.quiescent m ρ)

/-- So does the kernel over the extended reals. -/
theorem ideal_quiet : Cert.quiescent_KernelIdeal := fun m ρ _ => Cert.KernelIdeal.Rank.quiescent m ρ

/-- So does the reference, which declares no counter. -/
theorem reference_quiet : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals the kernel and the reference both end with the marks of the 40 greatest overlaps. -/
theorem same_winners : Cert.algebraic_KernelIdeal_ReferenceIdeal := fun m ρ m' ρ' _ hag =>
  ⟨fun c => Cert.KernelIdeal.Rank.winners (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono
      (fun _ h c => ⟨(h.1 c).trans (Cert.KernelIdeal.Rank.result_eq m c), (h.2.1 c).1, (h.2.1 c).2⟩)
      (θ_run_and (Cert.KernelIdeal.Rank.run_result m ρ) (Cert.KernelIdeal.Rank.quiescent m ρ)),
    (θ_run Cert.ReferenceIdeal.defs _ _).mono
      (fun _ h c => ⟨(h c).1.trans ((Cert.ReferenceIdeal.Read.val_main_v9_eq _ _).trans
          ((Cert.ReferenceIdeal.Winners.reference_eq _ _).trans
            (congrArg₂ Cert.KernelIdeal.Rank.winners (hag c).1 (hag c).2))), (h c).2.1, (h c).2.2⟩)
      (Cert.ReferenceIdeal.Value.run m' ρ')⟩

/-- Everything stated. -/
theorem claim : Cert.Claim := ⟨Cert.Kernel.Gen.facts, Cert.KernelIdeal.Gen.facts, Cert.ReferenceIdeal.Gen.facts,
  kernel_quiet, ideal_quiet, reference_quiet, trivial, same_winners⟩

end Cert.Proof

end
